-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1000 : Shape := ⟨2, ![4096, 1000]⟩
abbrev S1000x128 : Shape := ⟨2, ![1000, 128]⟩
abbrev S_ : Shape := ⟨0, ![]⟩
abbrev S1 : Shape := ⟨1, ![1]⟩
abbrev S2 : Shape := ⟨1, ![2]⟩
abbrev S1x1 : Shape := ⟨2, ![1, 1]⟩
abbrev S4096x1 : Shape := ⟨2, ![4096, 1]⟩
abbrev S1x4096 : Shape := ⟨2, ![1, 4096]⟩
abbrev S4096x128 : Shape := ⟨2, ![4096, 128]⟩
abbrev S1024x1000 : Shape := ⟨2, ![1024, 1000]⟩
abbrev S1x1024 : Shape := ⟨2, ![1, 1024]⟩
abbrev S1024x128 : Shape := ⟨2, ![1024, 128]⟩
abbrev S128x8x1024 : Shape := ⟨3, ![128, 8, 1024]⟩
abbrev S128x1024 : Shape := ⟨2, ![128, 1024]⟩
abbrev S128x1x1024 : Shape := ⟨3, ![128, 1, 1024]⟩
abbrev S1024x104 : Shape := ⟨2, ![1024, 104]⟩
abbrev S1024x24 : Shape := ⟨2, ![1024, 24]⟩
abbrev S1x8x1024 : Shape := ⟨3, ![1, 8, 1024]⟩
abbrev S1x1x1024 : Shape := ⟨3, ![1, 1, 1024]⟩
abbrev S128x8x1 : Shape := ⟨3, ![128, 8, 1]⟩
abbrev S1024 : Shape := ⟨1, ![1024]⟩
abbrev S8x128x1 : Shape := ⟨3, ![8, 128, 1]⟩
abbrev S8x128x1024 : Shape := ⟨3, ![8, 128, 1024]⟩
abbrev S24x128 : Shape := ⟨2, ![24, 128]⟩
abbrev S1024x1024 : Shape := ⟨2, ![1024, 1024]⟩

abbrev nBuf : Space → Nat
  | .hbm => 280
  | .vmem => 11
  | .smem => 0
  | _ => 0

abbrev hbmTy0_0 (i : Nat) : BufTy := match i % 128 with
  | 0 => ⟨S4096x1000, .f32⟩
  | 1 => ⟨S1000x128, .f32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S_, .f32⟩
  | 13 => ⟨S_, .f32⟩
  | 14 => ⟨S_, .f32⟩
  | 15 => ⟨S_, .f32⟩
  | 16 => ⟨S1x1, .f32⟩
  | 17 => ⟨S1x1, .f32⟩
  | 18 => ⟨S1, .i32⟩
  | 19 => ⟨S_, .i32⟩
  | 20 => ⟨S1, .i32⟩
  | 21 => ⟨S_, .i32⟩
  | 22 => ⟨S4096x1, .i64⟩
  | 23 => ⟨S4096x1, .i64⟩
  | 24 => ⟨S_, .i64⟩
  | 25 => ⟨S4096x1, .i64⟩
  | 26 => ⟨S4096x1, .i64⟩
  | 27 => ⟨S_, .i64⟩
  | 28 => ⟨S4096x1, .i64⟩
  | 29 => ⟨S4096x1, .i64⟩
  | 30 => ⟨S4096x1, .i64⟩
  | 31 => ⟨S_, .i64⟩
  | 32 => ⟨S4096x1, .i64⟩
  | 33 => ⟨S4096x1, .i64⟩
  | 34 => ⟨S4096x1, .i32⟩
  | 35 => ⟨S4096x1, .i32⟩
  | 36 => ⟨S_, .i32⟩
  | 37 => ⟨S_, .i32⟩
  | 38 => ⟨S_, .i32⟩
  | 39 => ⟨S4096x1, .i32⟩
  | 40 => ⟨S4096x1, .i32⟩
  | 41 => ⟨S4096x1, .i32⟩
  | 42 => ⟨S4096x1, .i32⟩
  | 43 => ⟨S4096x1, .i32⟩
  | 44 => ⟨S_, .i32⟩
  | 45 => ⟨S4096x1, .i32⟩
  | 46 => ⟨S4096x1, .i32⟩
  | 47 => ⟨S_, .i32⟩
  | 48 => ⟨S4096x1, .i32⟩
  | 49 => ⟨S4096x1, .i32⟩
  | 50 => ⟨S4096x1, .i32⟩
  | 51 => ⟨S4096x1, .i32⟩
  | 52 => ⟨S4096x1, .i32⟩
  | 53 => ⟨S_, .i32⟩
  | 54 => ⟨S4096x1, .i32⟩
  | 55 => ⟨S4096x1, .i32⟩
  | 56 => ⟨S_, .i32⟩
  | 57 => ⟨S4096x1, .i32⟩
  | 58 => ⟨S4096x1, .i32⟩
  | 59 => ⟨S4096x1, .i32⟩
  | 60 => ⟨S4096x1, .i32⟩
  | 61 => ⟨S4096x1, .i32⟩
  | 62 => ⟨S_, .i32⟩
  | 63 => ⟨S4096x1, .i32⟩
  | 64 => ⟨S4096x1, .i32⟩
  | 65 => ⟨S_, .i32⟩
  | 66 => ⟨S4096x1, .i32⟩
  | 67 => ⟨S4096x1, .i32⟩
  | 68 => ⟨S4096x1, .i32⟩
  | 69 => ⟨S4096x1, .i32⟩
  | 70 => ⟨S4096x1, .i32⟩
  | 71 => ⟨S_, .i32⟩
  | 72 => ⟨S4096x1, .i32⟩
  | 73 => ⟨S4096x1, .i32⟩
  | 74 => ⟨S_, .i32⟩
  | 75 => ⟨S4096x1, .i32⟩
  | 76 => ⟨S4096x1, .i32⟩
  | 77 => ⟨S4096x1, .i32⟩
  | 78 => ⟨S4096x1, .i32⟩
  | 79 => ⟨S4096x1, .i32⟩
  | 80 => ⟨S4096x1, .i32⟩
  | 81 => ⟨S4096x1, .i32⟩
  | 82 => ⟨S4096x1, .i32⟩
  | 83 => ⟨S_, .i32⟩
  | 84 => ⟨S4096x1, .i32⟩
  | 85 => ⟨S4096x1, .i32⟩
  | 86 => ⟨S4096x1, .i32⟩
  | 87 => ⟨S_, .i32⟩
  | 88 => ⟨S4096x1, .i32⟩
  | 89 => ⟨S4096x1, .i32⟩
  | 90 => ⟨S_, .i32⟩
  | 91 => ⟨S4096x1, .i32⟩
  | 92 => ⟨S4096x1, .i32⟩
  | 93 => ⟨S4096x1, .i32⟩
  | 94 => ⟨S4096x1, .i32⟩
  | 95 => ⟨S4096x1, .i32⟩
  | 96 => ⟨S_, .i32⟩
  | 97 => ⟨S4096x1, .i32⟩
  | 98 => ⟨S4096x1, .i32⟩
  | 99 => ⟨S_, .i32⟩
  | 100 => ⟨S4096x1, .i32⟩
  | 101 => ⟨S4096x1, .i32⟩
  | 102 => ⟨S4096x1, .i32⟩
  | 103 => ⟨S4096x1, .i32⟩
  | 104 => ⟨S4096x1, .i32⟩
  | 105 => ⟨S_, .i32⟩
  | 106 => ⟨S4096x1, .i32⟩
  | 107 => ⟨S4096x1, .i32⟩
  | 108 => ⟨S_, .i32⟩
  | 109 => ⟨S4096x1, .i32⟩
  | 110 => ⟨S4096x1, .i32⟩
  | 111 => ⟨S4096x1, .i32⟩
  | 112 => ⟨S4096x1, .i32⟩
  | 113 => ⟨S4096x1, .i32⟩
  | 114 => ⟨S_, .i32⟩
  | 115 => ⟨S4096x1, .i32⟩
  | 116 => ⟨S4096x1, .i32⟩
  | 117 => ⟨S_, .i32⟩
  | 118 => ⟨S4096x1, .i32⟩
  | 119 => ⟨S4096x1, .i32⟩
  | 120 => ⟨S4096x1, .i32⟩
  | 121 => ⟨S4096x1, .i32⟩
  | 122 => ⟨S4096x1, .i32⟩
  | 123 => ⟨S4096x1, .i32⟩
  | 124 => ⟨S4096x1, .i32⟩
  | 125 => ⟨S4096x1, .i32⟩
  | 126 => ⟨S_, .i32⟩
  | 127 => ⟨S4096x1, .i32⟩
  | _ => ⟨S4096x1000, .f32⟩

abbrev hbmTy0_1 (i : Nat) : BufTy := match i % 128 with
  | 0 => ⟨S4096x1, .i32⟩
  | 1 => ⟨S4096x1, .i32⟩
  | 2 => ⟨S_, .i32⟩
  | 3 => ⟨S4096x1, .i32⟩
  | 4 => ⟨S4096x1, .i32⟩
  | 5 => ⟨S_, .i32⟩
  | 6 => ⟨S4096x1, .i32⟩
  | 7 => ⟨S4096x1, .i32⟩
  | 8 => ⟨S4096x1, .i32⟩
  | 9 => ⟨S4096x1, .i32⟩
  | 10 => ⟨S4096x1, .i32⟩
  | 11 => ⟨S_, .i32⟩
  | 12 => ⟨S4096x1, .i32⟩
  | 13 => ⟨S4096x1, .i32⟩
  | 14 => ⟨S_, .i32⟩
  | 15 => ⟨S4096x1, .i32⟩
  | 16 => ⟨S4096x1, .i32⟩
  | 17 => ⟨S4096x1, .i32⟩
  | 18 => ⟨S4096x1, .i32⟩
  | 19 => ⟨S4096x1, .i32⟩
  | 20 => ⟨S_, .i32⟩
  | 21 => ⟨S4096x1, .i32⟩
  | 22 => ⟨S4096x1, .i32⟩
  | 23 => ⟨S_, .i32⟩
  | 24 => ⟨S4096x1, .i32⟩
  | 25 => ⟨S4096x1, .i32⟩
  | 26 => ⟨S4096x1, .i32⟩
  | 27 => ⟨S4096x1, .i32⟩
  | 28 => ⟨S4096x1, .i32⟩
  | 29 => ⟨S_, .i32⟩
  | 30 => ⟨S4096x1, .i32⟩
  | 31 => ⟨S4096x1, .i32⟩
  | 32 => ⟨S_, .i32⟩
  | 33 => ⟨S4096x1, .i32⟩
  | 34 => ⟨S4096x1, .i32⟩
  | 35 => ⟨S4096x1, .i32⟩
  | 36 => ⟨S4096x1, .i32⟩
  | 37 => ⟨S4096x1, .i32⟩
  | 38 => ⟨S4096x1, .i32⟩
  | 39 => ⟨S4096x1, .i32⟩
  | 40 => ⟨S4096x1, .i32⟩
  | 41 => ⟨S_, .i32⟩
  | 42 => ⟨S4096x1, .i32⟩
  | 43 => ⟨S4096x1, .i32⟩
  | 44 => ⟨S4096x1, .i32⟩
  | 45 => ⟨S_, .i32⟩
  | 46 => ⟨S4096x1, .i32⟩
  | 47 => ⟨S4096x1, .i32⟩
  | 48 => ⟨S_, .i32⟩
  | 49 => ⟨S4096x1, .i32⟩
  | 50 => ⟨S4096x1, .i32⟩
  | 51 => ⟨S4096x1, .i32⟩
  | 52 => ⟨S4096x1, .i32⟩
  | 53 => ⟨S4096x1, .i32⟩
  | 54 => ⟨S_, .i32⟩
  | 55 => ⟨S4096x1, .i32⟩
  | 56 => ⟨S4096x1, .i32⟩
  | 57 => ⟨S_, .i32⟩
  | 58 => ⟨S4096x1, .i32⟩
  | 59 => ⟨S4096x1, .i32⟩
  | 60 => ⟨S4096x1, .i32⟩
  | 61 => ⟨S4096x1, .i32⟩
  | 62 => ⟨S4096x1, .i32⟩
  | 63 => ⟨S_, .i32⟩
  | 64 => ⟨S4096x1, .i32⟩
  | 65 => ⟨S4096x1, .i32⟩
  | 66 => ⟨S_, .i32⟩
  | 67 => ⟨S4096x1, .i32⟩
  | 68 => ⟨S4096x1, .i32⟩
  | 69 => ⟨S4096x1, .i32⟩
  | 70 => ⟨S4096x1, .i32⟩
  | 71 => ⟨S4096x1, .i32⟩
  | 72 => ⟨S_, .i32⟩
  | 73 => ⟨S4096x1, .i32⟩
  | 74 => ⟨S4096x1, .i32⟩
  | 75 => ⟨S_, .i32⟩
  | 76 => ⟨S4096x1, .i32⟩
  | 77 => ⟨S4096x1, .i32⟩
  | 78 => ⟨S4096x1, .i32⟩
  | 79 => ⟨S4096x1, .i32⟩
  | 80 => ⟨S4096x1, .i32⟩
  | 81 => ⟨S4096x1, .i32⟩
  | 82 => ⟨S4096x1, .i32⟩
  | 83 => ⟨S4096x1, .i32⟩
  | 84 => ⟨S_, .i32⟩
  | 85 => ⟨S4096x1, .i32⟩
  | 86 => ⟨S4096x1, .i32⟩
  | 87 => ⟨S4096x1, .i32⟩
  | 88 => ⟨S_, .i32⟩
  | 89 => ⟨S4096x1, .i32⟩
  | 90 => ⟨S4096x1, .i32⟩
  | 91 => ⟨S_, .i32⟩
  | 92 => ⟨S4096x1, .i32⟩
  | 93 => ⟨S4096x1, .i32⟩
  | 94 => ⟨S4096x1, .i32⟩
  | 95 => ⟨S4096x1, .i32⟩
  | 96 => ⟨S4096x1, .i32⟩
  | 97 => ⟨S_, .i32⟩
  | 98 => ⟨S4096x1, .i32⟩
  | 99 => ⟨S4096x1, .i32⟩
  | 100 => ⟨S_, .i32⟩
  | 101 => ⟨S4096x1, .i32⟩
  | 102 => ⟨S4096x1, .i32⟩
  | 103 => ⟨S4096x1, .i32⟩
  | 104 => ⟨S4096x1, .i32⟩
  | 105 => ⟨S4096x1, .i32⟩
  | 106 => ⟨S_, .i32⟩
  | 107 => ⟨S4096x1, .i32⟩
  | 108 => ⟨S4096x1, .i32⟩
  | 109 => ⟨S_, .i32⟩
  | 110 => ⟨S4096x1, .i32⟩
  | 111 => ⟨S4096x1, .i32⟩
  | 112 => ⟨S4096x1, .i32⟩
  | 113 => ⟨S4096x1, .i32⟩
  | 114 => ⟨S4096x1, .i32⟩
  | 115 => ⟨S_, .i32⟩
  | 116 => ⟨S4096x1, .i32⟩
  | 117 => ⟨S4096x1, .i32⟩
  | 118 => ⟨S_, .i32⟩
  | 119 => ⟨S4096x1, .i32⟩
  | 120 => ⟨S4096x1, .i32⟩
  | 121 => ⟨S4096x1, .i32⟩
  | 122 => ⟨S4096x1, .i32⟩
  | 123 => ⟨S4096x1, .i32⟩
  | 124 => ⟨S4096x1, .i32⟩
  | 125 => ⟨S4096x1, .i32⟩
  | 126 => ⟨S4096x1, .i32⟩
  | 127 => ⟨S_, .i32⟩
  | _ => ⟨S4096x1000, .f32⟩

abbrev hbmTy0_2 (i : Nat) : BufTy := match i % 128 with
  | 0 => ⟨S4096x1, .i32⟩
  | 1 => ⟨S4096x1, .i32⟩
  | 2 => ⟨S4096x1, .i32⟩
  | 3 => ⟨S_, .i32⟩
  | 4 => ⟨S4096x1, .i32⟩
  | 5 => ⟨S4096x1, .i32⟩
  | 6 => ⟨S_, .i32⟩
  | 7 => ⟨S4096x1, .i32⟩
  | 8 => ⟨S4096x1, .i32⟩
  | 9 => ⟨S4096x1, .f32⟩
  | 10 => ⟨S_, .f32⟩
  | 11 => ⟨S4096x1, .f32⟩
  | 12 => ⟨S4096x1, .f32⟩
  | 13 => ⟨S1x1, .f32⟩
  | 14 => ⟨S4096x1, .f32⟩
  | 15 => ⟨S4096x1, .f32⟩
  | 16 => ⟨S4096x1, .f32⟩
  | 17 => ⟨S4096x1, .f32⟩
  | 18 => ⟨S4096x1, .f32⟩
  | 19 => ⟨S4096x1, .f32⟩
  | 20 => ⟨S1x4096, .f32⟩
  | 21 => ⟨S4096x128, .f32⟩
  | 22 => ⟨S1x4096, .f32⟩
  | 23 => ⟨S4096x1, .f32⟩
  | _ => ⟨S4096x1000, .f32⟩

abbrev hbmTy (i : Nat) : BufTy := match i / 128 with
  | 0 => hbmTy0_0 i
  | 1 => hbmTy0_1 i
  | 2 => hbmTy0_2 i
  | _ => ⟨S4096x1000, .f32⟩

abbrev bufTy : (tb : Table) → Fin (tcTables nBuf tb) → BufTy
  | .hbm, ⟨i, _⟩ => hbmTy i
  | .local _ .vmem, ⟨0, _⟩ => ⟨S1024x1000, .f32⟩
  | .local _ .vmem, ⟨1, _⟩ => ⟨S1024x1000, .f32⟩
  | .local _ .vmem, ⟨2, _⟩ => ⟨S1x1024, .f32⟩
  | .local _ .vmem, ⟨3, _⟩ => ⟨S1x1024, .f32⟩
  | .local _ .vmem, ⟨4, _⟩ => ⟨S1000x128, .f32⟩
  | .local _ .vmem, ⟨5, _⟩ => ⟨S1024x128, .f32⟩
  | .local _ .vmem, ⟨6, _⟩ => ⟨S1024x128, .f32⟩
  | .local _ .vmem, ⟨7, _⟩ => ⟨S1x1024, .f32⟩
  | .local _ .vmem, ⟨8, _⟩ => ⟨S1x1024, .f32⟩
  | .local _ .vmem, ⟨9, _⟩ => ⟨S128x8x1024, .f32⟩
  | .local _ .vmem, ⟨10, _⟩ => ⟨S128x8x1024, .f32⟩
  | _, _ => ⟨S4096x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_cst_2 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_c : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_c_1 : Ref sig .tc := ⟨.hbm, 31, rfl⟩
abbrev main_call0_v15 : Ref sig .tc := ⟨.hbm, 32, rfl⟩
abbrev main_call0_v16 : Ref sig .tc := ⟨.hbm, 33, rfl⟩
abbrev main_call0_v17 : Ref sig .tc := ⟨.hbm, 34, rfl⟩
abbrev main_call0_v18 : Ref sig .tc := ⟨.hbm, 35, rfl⟩
abbrev main_call0_call0_v0 : Ref sig .tc := ⟨.hbm, 36, rfl⟩
abbrev main_call0_call0_c : Ref sig .tc := ⟨.hbm, 37, rfl⟩
abbrev main_call0_call0_v1 : Ref sig .tc := ⟨.hbm, 38, rfl⟩
abbrev main_call0_call0_v2 : Ref sig .tc := ⟨.hbm, 39, rfl⟩
abbrev main_call0_call0_v3 : Ref sig .tc := ⟨.hbm, 40, rfl⟩
abbrev main_call0_call0_v4 : Ref sig .tc := ⟨.hbm, 41, rfl⟩
abbrev main_call0_call0_v5 : Ref sig .tc := ⟨.hbm, 42, rfl⟩
abbrev main_call0_call0_v6 : Ref sig .tc := ⟨.hbm, 43, rfl⟩
abbrev main_call0_call0_c_0 : Ref sig .tc := ⟨.hbm, 44, rfl⟩
abbrev main_call0_call0_v7 : Ref sig .tc := ⟨.hbm, 45, rfl⟩
abbrev main_call0_call0_v8 : Ref sig .tc := ⟨.hbm, 46, rfl⟩
abbrev main_call0_call0_c_1 : Ref sig .tc := ⟨.hbm, 47, rfl⟩
abbrev main_call0_call0_v9 : Ref sig .tc := ⟨.hbm, 48, rfl⟩
abbrev main_call0_call0_v10 : Ref sig .tc := ⟨.hbm, 49, rfl⟩
abbrev main_call0_call0_v11 : Ref sig .tc := ⟨.hbm, 50, rfl⟩
abbrev main_call0_call0_v12 : Ref sig .tc := ⟨.hbm, 51, rfl⟩
abbrev main_call0_call0_v13 : Ref sig .tc := ⟨.hbm, 52, rfl⟩
abbrev main_call0_call0_c_2 : Ref sig .tc := ⟨.hbm, 53, rfl⟩
abbrev main_call0_call0_v14 : Ref sig .tc := ⟨.hbm, 54, rfl⟩
abbrev main_call0_call0_v15 : Ref sig .tc := ⟨.hbm, 55, rfl⟩
abbrev main_call0_call0_c_3 : Ref sig .tc := ⟨.hbm, 56, rfl⟩
abbrev main_call0_call0_v16 : Ref sig .tc := ⟨.hbm, 57, rfl⟩
abbrev main_call0_call0_v17 : Ref sig .tc := ⟨.hbm, 58, rfl⟩
abbrev main_call0_call0_v18 : Ref sig .tc := ⟨.hbm, 59, rfl⟩
abbrev main_call0_call0_v19 : Ref sig .tc := ⟨.hbm, 60, rfl⟩
abbrev main_call0_call0_v20 : Ref sig .tc := ⟨.hbm, 61, rfl⟩
abbrev main_call0_call0_c_4 : Ref sig .tc := ⟨.hbm, 62, rfl⟩
abbrev main_call0_call0_v21 : Ref sig .tc := ⟨.hbm, 63, rfl⟩
abbrev main_call0_call0_v22 : Ref sig .tc := ⟨.hbm, 64, rfl⟩
abbrev main_call0_call0_c_5 : Ref sig .tc := ⟨.hbm, 65, rfl⟩
abbrev main_call0_call0_v23 : Ref sig .tc := ⟨.hbm, 66, rfl⟩
abbrev main_call0_call0_v24 : Ref sig .tc := ⟨.hbm, 67, rfl⟩
abbrev main_call0_call0_v25 : Ref sig .tc := ⟨.hbm, 68, rfl⟩
abbrev main_call0_call0_v26 : Ref sig .tc := ⟨.hbm, 69, rfl⟩
abbrev main_call0_call0_v27 : Ref sig .tc := ⟨.hbm, 70, rfl⟩
abbrev main_call0_call0_c_6 : Ref sig .tc := ⟨.hbm, 71, rfl⟩
abbrev main_call0_call0_v28 : Ref sig .tc := ⟨.hbm, 72, rfl⟩
abbrev main_call0_call0_v29 : Ref sig .tc := ⟨.hbm, 73, rfl⟩
abbrev main_call0_call0_c_7 : Ref sig .tc := ⟨.hbm, 74, rfl⟩
abbrev main_call0_call0_v30 : Ref sig .tc := ⟨.hbm, 75, rfl⟩
abbrev main_call0_call0_v31 : Ref sig .tc := ⟨.hbm, 76, rfl⟩
abbrev main_call0_call0_v32 : Ref sig .tc := ⟨.hbm, 77, rfl⟩
abbrev main_call0_call0_v33 : Ref sig .tc := ⟨.hbm, 78, rfl⟩
abbrev main_call0_call0_v34 : Ref sig .tc := ⟨.hbm, 79, rfl⟩
abbrev main_call0_call0_v35 : Ref sig .tc := ⟨.hbm, 80, rfl⟩
abbrev main_call0_call0_v36 : Ref sig .tc := ⟨.hbm, 81, rfl⟩
abbrev main_call0_call0_v37 : Ref sig .tc := ⟨.hbm, 82, rfl⟩
abbrev main_call0_call0_c_8 : Ref sig .tc := ⟨.hbm, 83, rfl⟩
abbrev main_call0_call0_v38 : Ref sig .tc := ⟨.hbm, 84, rfl⟩
abbrev main_call0_call0_v39 : Ref sig .tc := ⟨.hbm, 85, rfl⟩
abbrev main_call0_call0_v40 : Ref sig .tc := ⟨.hbm, 86, rfl⟩
abbrev main_call0_call0_c_9 : Ref sig .tc := ⟨.hbm, 87, rfl⟩
abbrev main_call0_call0_v41 : Ref sig .tc := ⟨.hbm, 88, rfl⟩
abbrev main_call0_call0_v42 : Ref sig .tc := ⟨.hbm, 89, rfl⟩
abbrev main_call0_call0_c_10 : Ref sig .tc := ⟨.hbm, 90, rfl⟩
abbrev main_call0_call0_v43 : Ref sig .tc := ⟨.hbm, 91, rfl⟩
abbrev main_call0_call0_v44 : Ref sig .tc := ⟨.hbm, 92, rfl⟩
abbrev main_call0_call0_v45 : Ref sig .tc := ⟨.hbm, 93, rfl⟩
abbrev main_call0_call0_v46 : Ref sig .tc := ⟨.hbm, 94, rfl⟩
abbrev main_call0_call0_v47 : Ref sig .tc := ⟨.hbm, 95, rfl⟩
abbrev main_call0_call0_c_11 : Ref sig .tc := ⟨.hbm, 96, rfl⟩
abbrev main_call0_call0_v48 : Ref sig .tc := ⟨.hbm, 97, rfl⟩
abbrev main_call0_call0_v49 : Ref sig .tc := ⟨.hbm, 98, rfl⟩
abbrev main_call0_call0_c_12 : Ref sig .tc := ⟨.hbm, 99, rfl⟩
abbrev main_call0_call0_v50 : Ref sig .tc := ⟨.hbm, 100, rfl⟩
abbrev main_call0_call0_v51 : Ref sig .tc := ⟨.hbm, 101, rfl⟩
abbrev main_call0_call0_v52 : Ref sig .tc := ⟨.hbm, 102, rfl⟩
abbrev main_call0_call0_v53 : Ref sig .tc := ⟨.hbm, 103, rfl⟩
abbrev main_call0_call0_v54 : Ref sig .tc := ⟨.hbm, 104, rfl⟩
abbrev main_call0_call0_c_13 : Ref sig .tc := ⟨.hbm, 105, rfl⟩
abbrev main_call0_call0_v55 : Ref sig .tc := ⟨.hbm, 106, rfl⟩
abbrev main_call0_call0_v56 : Ref sig .tc := ⟨.hbm, 107, rfl⟩
abbrev main_call0_call0_c_14 : Ref sig .tc := ⟨.hbm, 108, rfl⟩
abbrev main_call0_call0_v57 : Ref sig .tc := ⟨.hbm, 109, rfl⟩
abbrev main_call0_call0_v58 : Ref sig .tc := ⟨.hbm, 110, rfl⟩
abbrev main_call0_call0_v59 : Ref sig .tc := ⟨.hbm, 111, rfl⟩
abbrev main_call0_call0_v60 : Ref sig .tc := ⟨.hbm, 112, rfl⟩
abbrev main_call0_call0_v61 : Ref sig .tc := ⟨.hbm, 113, rfl⟩
abbrev main_call0_call0_c_15 : Ref sig .tc := ⟨.hbm, 114, rfl⟩
abbrev main_call0_call0_v62 : Ref sig .tc := ⟨.hbm, 115, rfl⟩
abbrev main_call0_call0_v63 : Ref sig .tc := ⟨.hbm, 116, rfl⟩
abbrev main_call0_call0_c_16 : Ref sig .tc := ⟨.hbm, 117, rfl⟩
abbrev main_call0_call0_v64 : Ref sig .tc := ⟨.hbm, 118, rfl⟩
abbrev main_call0_call0_v65 : Ref sig .tc := ⟨.hbm, 119, rfl⟩
abbrev main_call0_call0_v66 : Ref sig .tc := ⟨.hbm, 120, rfl⟩
abbrev main_call0_call0_v67 : Ref sig .tc := ⟨.hbm, 121, rfl⟩
abbrev main_call0_call0_v68 : Ref sig .tc := ⟨.hbm, 122, rfl⟩
abbrev main_call0_call0_v69 : Ref sig .tc := ⟨.hbm, 123, rfl⟩
abbrev main_call0_call0_v70 : Ref sig .tc := ⟨.hbm, 124, rfl⟩
abbrev main_call0_call0_v71 : Ref sig .tc := ⟨.hbm, 125, rfl⟩
abbrev main_call0_call0_c_17 : Ref sig .tc := ⟨.hbm, 126, rfl⟩
abbrev main_call0_call0_v72 : Ref sig .tc := ⟨.hbm, 127, rfl⟩
abbrev main_call0_call0_v73 : Ref sig .tc := ⟨.hbm, 128, rfl⟩
abbrev main_call0_call0_v74 : Ref sig .tc := ⟨.hbm, 129, rfl⟩
abbrev main_call0_call0_c_18 : Ref sig .tc := ⟨.hbm, 130, rfl⟩
abbrev main_call0_call0_v75 : Ref sig .tc := ⟨.hbm, 131, rfl⟩
abbrev main_call0_call0_v76 : Ref sig .tc := ⟨.hbm, 132, rfl⟩
abbrev main_call0_call0_c_19 : Ref sig .tc := ⟨.hbm, 133, rfl⟩
abbrev main_call0_call0_v77 : Ref sig .tc := ⟨.hbm, 134, rfl⟩
abbrev main_call0_call0_v78 : Ref sig .tc := ⟨.hbm, 135, rfl⟩
abbrev main_call0_call0_v79 : Ref sig .tc := ⟨.hbm, 136, rfl⟩
abbrev main_call0_call0_v80 : Ref sig .tc := ⟨.hbm, 137, rfl⟩
abbrev main_call0_call0_v81 : Ref sig .tc := ⟨.hbm, 138, rfl⟩
abbrev main_call0_call0_c_20 : Ref sig .tc := ⟨.hbm, 139, rfl⟩
abbrev main_call0_call0_v82 : Ref sig .tc := ⟨.hbm, 140, rfl⟩
abbrev main_call0_call0_v83 : Ref sig .tc := ⟨.hbm, 141, rfl⟩
abbrev main_call0_call0_c_21 : Ref sig .tc := ⟨.hbm, 142, rfl⟩
abbrev main_call0_call0_v84 : Ref sig .tc := ⟨.hbm, 143, rfl⟩
abbrev main_call0_call0_v85 : Ref sig .tc := ⟨.hbm, 144, rfl⟩
abbrev main_call0_call0_v86 : Ref sig .tc := ⟨.hbm, 145, rfl⟩
abbrev main_call0_call0_v87 : Ref sig .tc := ⟨.hbm, 146, rfl⟩
abbrev main_call0_call0_v88 : Ref sig .tc := ⟨.hbm, 147, rfl⟩
abbrev main_call0_call0_c_22 : Ref sig .tc := ⟨.hbm, 148, rfl⟩
abbrev main_call0_call0_v89 : Ref sig .tc := ⟨.hbm, 149, rfl⟩
abbrev main_call0_call0_v90 : Ref sig .tc := ⟨.hbm, 150, rfl⟩
abbrev main_call0_call0_c_23 : Ref sig .tc := ⟨.hbm, 151, rfl⟩
abbrev main_call0_call0_v91 : Ref sig .tc := ⟨.hbm, 152, rfl⟩
abbrev main_call0_call0_v92 : Ref sig .tc := ⟨.hbm, 153, rfl⟩
abbrev main_call0_call0_v93 : Ref sig .tc := ⟨.hbm, 154, rfl⟩
abbrev main_call0_call0_v94 : Ref sig .tc := ⟨.hbm, 155, rfl⟩
abbrev main_call0_call0_v95 : Ref sig .tc := ⟨.hbm, 156, rfl⟩
abbrev main_call0_call0_c_24 : Ref sig .tc := ⟨.hbm, 157, rfl⟩
abbrev main_call0_call0_v96 : Ref sig .tc := ⟨.hbm, 158, rfl⟩
abbrev main_call0_call0_v97 : Ref sig .tc := ⟨.hbm, 159, rfl⟩
abbrev main_call0_call0_c_25 : Ref sig .tc := ⟨.hbm, 160, rfl⟩
abbrev main_call0_call0_v98 : Ref sig .tc := ⟨.hbm, 161, rfl⟩
abbrev main_call0_call0_v99 : Ref sig .tc := ⟨.hbm, 162, rfl⟩
abbrev main_call0_call0_v100 : Ref sig .tc := ⟨.hbm, 163, rfl⟩
abbrev main_call0_call0_v101 : Ref sig .tc := ⟨.hbm, 164, rfl⟩
abbrev main_call0_call0_v102 : Ref sig .tc := ⟨.hbm, 165, rfl⟩
abbrev main_call0_call0_v103 : Ref sig .tc := ⟨.hbm, 166, rfl⟩
abbrev main_call0_call0_v104 : Ref sig .tc := ⟨.hbm, 167, rfl⟩
abbrev main_call0_call0_v105 : Ref sig .tc := ⟨.hbm, 168, rfl⟩
abbrev main_call0_call0_c_26 : Ref sig .tc := ⟨.hbm, 169, rfl⟩
abbrev main_call0_call0_v106 : Ref sig .tc := ⟨.hbm, 170, rfl⟩
abbrev main_call0_call0_v107 : Ref sig .tc := ⟨.hbm, 171, rfl⟩
abbrev main_call0_call0_v108 : Ref sig .tc := ⟨.hbm, 172, rfl⟩
abbrev main_call0_call0_c_27 : Ref sig .tc := ⟨.hbm, 173, rfl⟩
abbrev main_call0_call0_v109 : Ref sig .tc := ⟨.hbm, 174, rfl⟩
abbrev main_call0_call0_v110 : Ref sig .tc := ⟨.hbm, 175, rfl⟩
abbrev main_call0_call0_c_28 : Ref sig .tc := ⟨.hbm, 176, rfl⟩
abbrev main_call0_call0_v111 : Ref sig .tc := ⟨.hbm, 177, rfl⟩
abbrev main_call0_call0_v112 : Ref sig .tc := ⟨.hbm, 178, rfl⟩
abbrev main_call0_call0_v113 : Ref sig .tc := ⟨.hbm, 179, rfl⟩
abbrev main_call0_call0_v114 : Ref sig .tc := ⟨.hbm, 180, rfl⟩
abbrev main_call0_call0_v115 : Ref sig .tc := ⟨.hbm, 181, rfl⟩
abbrev main_call0_call0_c_29 : Ref sig .tc := ⟨.hbm, 182, rfl⟩
abbrev main_call0_call0_v116 : Ref sig .tc := ⟨.hbm, 183, rfl⟩
abbrev main_call0_call0_v117 : Ref sig .tc := ⟨.hbm, 184, rfl⟩
abbrev main_call0_call0_c_30 : Ref sig .tc := ⟨.hbm, 185, rfl⟩
abbrev main_call0_call0_v118 : Ref sig .tc := ⟨.hbm, 186, rfl⟩
abbrev main_call0_call0_v119 : Ref sig .tc := ⟨.hbm, 187, rfl⟩
abbrev main_call0_call0_v120 : Ref sig .tc := ⟨.hbm, 188, rfl⟩
abbrev main_call0_call0_v121 : Ref sig .tc := ⟨.hbm, 189, rfl⟩
abbrev main_call0_call0_v122 : Ref sig .tc := ⟨.hbm, 190, rfl⟩
abbrev main_call0_call0_c_31 : Ref sig .tc := ⟨.hbm, 191, rfl⟩
abbrev main_call0_call0_v123 : Ref sig .tc := ⟨.hbm, 192, rfl⟩
abbrev main_call0_call0_v124 : Ref sig .tc := ⟨.hbm, 193, rfl⟩
abbrev main_call0_call0_c_32 : Ref sig .tc := ⟨.hbm, 194, rfl⟩
abbrev main_call0_call0_v125 : Ref sig .tc := ⟨.hbm, 195, rfl⟩
abbrev main_call0_call0_v126 : Ref sig .tc := ⟨.hbm, 196, rfl⟩
abbrev main_call0_call0_v127 : Ref sig .tc := ⟨.hbm, 197, rfl⟩
abbrev main_call0_call0_v128 : Ref sig .tc := ⟨.hbm, 198, rfl⟩
abbrev main_call0_call0_v129 : Ref sig .tc := ⟨.hbm, 199, rfl⟩
abbrev main_call0_call0_c_33 : Ref sig .tc := ⟨.hbm, 200, rfl⟩
abbrev main_call0_call0_v130 : Ref sig .tc := ⟨.hbm, 201, rfl⟩
abbrev main_call0_call0_v131 : Ref sig .tc := ⟨.hbm, 202, rfl⟩
abbrev main_call0_call0_c_34 : Ref sig .tc := ⟨.hbm, 203, rfl⟩
abbrev main_call0_call0_v132 : Ref sig .tc := ⟨.hbm, 204, rfl⟩
abbrev main_call0_call0_v133 : Ref sig .tc := ⟨.hbm, 205, rfl⟩
abbrev main_call0_call0_v134 : Ref sig .tc := ⟨.hbm, 206, rfl⟩
abbrev main_call0_call0_v135 : Ref sig .tc := ⟨.hbm, 207, rfl⟩
abbrev main_call0_call0_v136 : Ref sig .tc := ⟨.hbm, 208, rfl⟩
abbrev main_call0_call0_v137 : Ref sig .tc := ⟨.hbm, 209, rfl⟩
abbrev main_call0_call0_v138 : Ref sig .tc := ⟨.hbm, 210, rfl⟩
abbrev main_call0_call0_v139 : Ref sig .tc := ⟨.hbm, 211, rfl⟩
abbrev main_call0_call0_c_35 : Ref sig .tc := ⟨.hbm, 212, rfl⟩
abbrev main_call0_call0_v140 : Ref sig .tc := ⟨.hbm, 213, rfl⟩
abbrev main_call0_call0_v141 : Ref sig .tc := ⟨.hbm, 214, rfl⟩
abbrev main_call0_call0_v142 : Ref sig .tc := ⟨.hbm, 215, rfl⟩
abbrev main_call0_call0_c_36 : Ref sig .tc := ⟨.hbm, 216, rfl⟩
abbrev main_call0_call0_v143 : Ref sig .tc := ⟨.hbm, 217, rfl⟩
abbrev main_call0_call0_v144 : Ref sig .tc := ⟨.hbm, 218, rfl⟩
abbrev main_call0_call0_c_37 : Ref sig .tc := ⟨.hbm, 219, rfl⟩
abbrev main_call0_call0_v145 : Ref sig .tc := ⟨.hbm, 220, rfl⟩
abbrev main_call0_call0_v146 : Ref sig .tc := ⟨.hbm, 221, rfl⟩
abbrev main_call0_call0_v147 : Ref sig .tc := ⟨.hbm, 222, rfl⟩
abbrev main_call0_call0_v148 : Ref sig .tc := ⟨.hbm, 223, rfl⟩
abbrev main_call0_call0_v149 : Ref sig .tc := ⟨.hbm, 224, rfl⟩
abbrev main_call0_call0_c_38 : Ref sig .tc := ⟨.hbm, 225, rfl⟩
abbrev main_call0_call0_v150 : Ref sig .tc := ⟨.hbm, 226, rfl⟩
abbrev main_call0_call0_v151 : Ref sig .tc := ⟨.hbm, 227, rfl⟩
abbrev main_call0_call0_c_39 : Ref sig .tc := ⟨.hbm, 228, rfl⟩
abbrev main_call0_call0_v152 : Ref sig .tc := ⟨.hbm, 229, rfl⟩
abbrev main_call0_call0_v153 : Ref sig .tc := ⟨.hbm, 230, rfl⟩
abbrev main_call0_call0_v154 : Ref sig .tc := ⟨.hbm, 231, rfl⟩
abbrev main_call0_call0_v155 : Ref sig .tc := ⟨.hbm, 232, rfl⟩
abbrev main_call0_call0_v156 : Ref sig .tc := ⟨.hbm, 233, rfl⟩
abbrev main_call0_call0_c_40 : Ref sig .tc := ⟨.hbm, 234, rfl⟩
abbrev main_call0_call0_v157 : Ref sig .tc := ⟨.hbm, 235, rfl⟩
abbrev main_call0_call0_v158 : Ref sig .tc := ⟨.hbm, 236, rfl⟩
abbrev main_call0_call0_c_41 : Ref sig .tc := ⟨.hbm, 237, rfl⟩
abbrev main_call0_call0_v159 : Ref sig .tc := ⟨.hbm, 238, rfl⟩
abbrev main_call0_call0_v160 : Ref sig .tc := ⟨.hbm, 239, rfl⟩
abbrev main_call0_call0_v161 : Ref sig .tc := ⟨.hbm, 240, rfl⟩
abbrev main_call0_call0_v162 : Ref sig .tc := ⟨.hbm, 241, rfl⟩
abbrev main_call0_call0_v163 : Ref sig .tc := ⟨.hbm, 242, rfl⟩
abbrev main_call0_call0_c_42 : Ref sig .tc := ⟨.hbm, 243, rfl⟩
abbrev main_call0_call0_v164 : Ref sig .tc := ⟨.hbm, 244, rfl⟩
abbrev main_call0_call0_v165 : Ref sig .tc := ⟨.hbm, 245, rfl⟩
abbrev main_call0_call0_c_43 : Ref sig .tc := ⟨.hbm, 246, rfl⟩
abbrev main_call0_call0_v166 : Ref sig .tc := ⟨.hbm, 247, rfl⟩
abbrev main_call0_call0_v167 : Ref sig .tc := ⟨.hbm, 248, rfl⟩
abbrev main_call0_call0_v168 : Ref sig .tc := ⟨.hbm, 249, rfl⟩
abbrev main_call0_call0_v169 : Ref sig .tc := ⟨.hbm, 250, rfl⟩
abbrev main_call0_call0_v170 : Ref sig .tc := ⟨.hbm, 251, rfl⟩
abbrev main_call0_v19_0 : Ref sig .tc := ⟨.hbm, 252, rfl⟩
abbrev main_call0_call0_v172 : Ref sig .tc := ⟨.hbm, 253, rfl⟩
abbrev main_call0_call0_v173 : Ref sig .tc := ⟨.hbm, 254, rfl⟩
abbrev main_call0_call0_c_44 : Ref sig .tc := ⟨.hbm, 255, rfl⟩
abbrev main_call0_call0_v174 : Ref sig .tc := ⟨.hbm, 256, rfl⟩
abbrev main_call0_v19_1 : Ref sig .tc := ⟨.hbm, 257, rfl⟩
abbrev main_call0_v20 : Ref sig .tc := ⟨.hbm, 258, rfl⟩
abbrev main_call0_c_2 : Ref sig .tc := ⟨.hbm, 259, rfl⟩
abbrev main_call0_v21 : Ref sig .tc := ⟨.hbm, 260, rfl⟩
abbrev main_call0_v22 : Ref sig .tc := ⟨.hbm, 261, rfl⟩
abbrev main_call0_c_3 : Ref sig .tc := ⟨.hbm, 262, rfl⟩
abbrev main_call0_v23 : Ref sig .tc := ⟨.hbm, 263, rfl⟩
abbrev main_call0_v24 : Ref sig .tc := ⟨.hbm, 264, rfl⟩
abbrev main_call0_v25 : Ref sig .tc := ⟨.hbm, 265, rfl⟩
abbrev main_call0_cst : Ref sig .tc := ⟨.hbm, 266, rfl⟩
abbrev main_call0_v26 : Ref sig .tc := ⟨.hbm, 267, rfl⟩
abbrev main_call0_v27 : Ref sig .tc := ⟨.hbm, 268, rfl⟩
abbrev main_call0_v28 : Ref sig .tc := ⟨.hbm, 269, rfl⟩
abbrev main_call0_v29 : Ref sig .tc := ⟨.hbm, 270, rfl⟩
abbrev main_call0_v30 : Ref sig .tc := ⟨.hbm, 271, rfl⟩
abbrev main_call0_v31 : Ref sig .tc := ⟨.hbm, 272, rfl⟩
abbrev main_call0_v32 : Ref sig .tc := ⟨.hbm, 273, rfl⟩
abbrev main_call0_v33 : Ref sig .tc := ⟨.hbm, 274, rfl⟩
abbrev main_v7 : Ref sig .tc := ⟨.hbm, 275, rfl⟩
abbrev main_v8 : Ref sig .tc := ⟨.hbm, 276, rfl⟩
abbrev main_v9_0 : Ref sig .tc := ⟨.hbm, 277, rfl⟩
abbrev main_v9_1 : Ref sig .tc := ⟨.hbm, 278, rfl⟩
abbrev main_v10 : Ref sig .tc := ⟨.hbm, 279, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4096x1000 : Shape := ⟨2, ![4096, 1000]⟩
abbrev S1000x128 : Shape := ⟨2, ![1000, 128]⟩
abbrev S_ : Shape := ⟨0, ![]⟩
abbrev S4096x1 : Shape := ⟨2, ![4096, 1]⟩
abbrev S1 : Shape := ⟨1, ![1]⟩
abbrev S2 : Shape := ⟨1, ![2]⟩
abbrev S1x1 : Shape := ⟨2, ![1, 1]⟩
abbrev S4096 : Shape := ⟨1, ![4096]⟩
abbrev S4096x1x1 : Shape := ⟨3, ![4096, 1, 1]⟩
abbrev S1x1x1 : Shape := ⟨3, ![1, 1, 1]⟩
abbrev S4096x128 : Shape := ⟨2, ![4096, 128]⟩

abbrev nBuf : Space → Nat
  | .hbm => 342
  | .vmem => 0
  | .smem => 0
  | _ => 0

abbrev hbmTy0_0 (i : Nat) : BufTy := match i % 128 with
  | 0 => ⟨S4096x1000, .f32⟩
  | 1 => ⟨S1000x128, .f32⟩
  | 2 => ⟨S_, .f32⟩
  | 3 => ⟨S_, .f32⟩
  | 4 => ⟨S4096x1000, .f32⟩
  | 5 => ⟨S4096x1, .f32⟩
  | 6 => ⟨S_, .i32⟩
  | 7 => ⟨S_, .i32⟩
  | 8 => ⟨S_, .i32⟩
  | 9 => ⟨S_, .i32⟩
  | 10 => ⟨S1, .i32⟩
  | 11 => ⟨S_, .i32⟩
  | 12 => ⟨S_, .i32⟩
  | 13 => ⟨S_, .i32⟩
  | 14 => ⟨S1, .i32⟩
  | 15 => ⟨S2, .i32⟩
  | 16 => ⟨S_, .f32⟩
  | 17 => ⟨S_, .f32⟩
  | 18 => ⟨S_, .f32⟩
  | 19 => ⟨S_, .f32⟩
  | 20 => ⟨S1x1, .f32⟩
  | 21 => ⟨S1x1, .f32⟩
  | 22 => ⟨S1, .i32⟩
  | 23 => ⟨S_, .i32⟩
  | 24 => ⟨S1, .i32⟩
  | 25 => ⟨S_, .i32⟩
  | 26 => ⟨S4096x1, .i64⟩
  | 27 => ⟨S4096x1, .i64⟩
  | 28 => ⟨S_, .i64⟩
  | 29 => ⟨S4096x1, .i64⟩
  | 30 => ⟨S4096x1, .i64⟩
  | 31 => ⟨S_, .i64⟩
  | 32 => ⟨S4096x1, .i64⟩
  | 33 => ⟨S4096x1, .i64⟩
  | 34 => ⟨S4096x1, .i64⟩
  | 35 => ⟨S_, .i64⟩
  | 36 => ⟨S4096x1, .i64⟩
  | 37 => ⟨S4096x1, .i64⟩
  | 38 => ⟨S4096x1, .i32⟩
  | 39 => ⟨S4096x1, .i32⟩
  | 40 => ⟨S_, .i32⟩
  | 41 => ⟨S_, .i32⟩
  | 42 => ⟨S_, .i32⟩
  | 43 => ⟨S4096x1, .i32⟩
  | 44 => ⟨S4096x1, .i32⟩
  | 45 => ⟨S4096x1, .i32⟩
  | 46 => ⟨S4096x1, .i32⟩
  | 47 => ⟨S4096x1, .i32⟩
  | 48 => ⟨S_, .i32⟩
  | 49 => ⟨S4096x1, .i32⟩
  | 50 => ⟨S4096x1, .i32⟩
  | 51 => ⟨S_, .i32⟩
  | 52 => ⟨S4096x1, .i32⟩
  | 53 => ⟨S4096x1, .i32⟩
  | 54 => ⟨S4096x1, .i32⟩
  | 55 => ⟨S4096x1, .i32⟩
  | 56 => ⟨S4096x1, .i32⟩
  | 57 => ⟨S_, .i32⟩
  | 58 => ⟨S4096x1, .i32⟩
  | 59 => ⟨S4096x1, .i32⟩
  | 60 => ⟨S_, .i32⟩
  | 61 => ⟨S4096x1, .i32⟩
  | 62 => ⟨S4096x1, .i32⟩
  | 63 => ⟨S4096x1, .i32⟩
  | 64 => ⟨S4096x1, .i32⟩
  | 65 => ⟨S4096x1, .i32⟩
  | 66 => ⟨S_, .i32⟩
  | 67 => ⟨S4096x1, .i32⟩
  | 68 => ⟨S4096x1, .i32⟩
  | 69 => ⟨S_, .i32⟩
  | 70 => ⟨S4096x1, .i32⟩
  | 71 => ⟨S4096x1, .i32⟩
  | 72 => ⟨S4096x1, .i32⟩
  | 73 => ⟨S4096x1, .i32⟩
  | 74 => ⟨S4096x1, .i32⟩
  | 75 => ⟨S_, .i32⟩
  | 76 => ⟨S4096x1, .i32⟩
  | 77 => ⟨S4096x1, .i32⟩
  | 78 => ⟨S_, .i32⟩
  | 79 => ⟨S4096x1, .i32⟩
  | 80 => ⟨S4096x1, .i32⟩
  | 81 => ⟨S4096x1, .i32⟩
  | 82 => ⟨S4096x1, .i32⟩
  | 83 => ⟨S4096x1, .i32⟩
  | 84 => ⟨S4096x1, .i32⟩
  | 85 => ⟨S4096x1, .i32⟩
  | 86 => ⟨S4096x1, .i32⟩
  | 87 => ⟨S_, .i32⟩
  | 88 => ⟨S4096x1, .i32⟩
  | 89 => ⟨S4096x1, .i32⟩
  | 90 => ⟨S4096x1, .i32⟩
  | 91 => ⟨S_, .i32⟩
  | 92 => ⟨S4096x1, .i32⟩
  | 93 => ⟨S4096x1, .i32⟩
  | 94 => ⟨S_, .i32⟩
  | 95 => ⟨S4096x1, .i32⟩
  | 96 => ⟨S4096x1, .i32⟩
  | 97 => ⟨S4096x1, .i32⟩
  | 98 => ⟨S4096x1, .i32⟩
  | 99 => ⟨S4096x1, .i32⟩
  | 100 => ⟨S_, .i32⟩
  | 101 => ⟨S4096x1, .i32⟩
  | 102 => ⟨S4096x1, .i32⟩
  | 103 => ⟨S_, .i32⟩
  | 104 => ⟨S4096x1, .i32⟩
  | 105 => ⟨S4096x1, .i32⟩
  | 106 => ⟨S4096x1, .i32⟩
  | 107 => ⟨S4096x1, .i32⟩
  | 108 => ⟨S4096x1, .i32⟩
  | 109 => ⟨S_, .i32⟩
  | 110 => ⟨S4096x1, .i32⟩
  | 111 => ⟨S4096x1, .i32⟩
  | 112 => ⟨S_, .i32⟩
  | 113 => ⟨S4096x1, .i32⟩
  | 114 => ⟨S4096x1, .i32⟩
  | 115 => ⟨S4096x1, .i32⟩
  | 116 => ⟨S4096x1, .i32⟩
  | 117 => ⟨S4096x1, .i32⟩
  | 118 => ⟨S_, .i32⟩
  | 119 => ⟨S4096x1, .i32⟩
  | 120 => ⟨S4096x1, .i32⟩
  | 121 => ⟨S_, .i32⟩
  | 122 => ⟨S4096x1, .i32⟩
  | 123 => ⟨S4096x1, .i32⟩
  | 124 => ⟨S4096x1, .i32⟩
  | 125 => ⟨S4096x1, .i32⟩
  | 126 => ⟨S4096x1, .i32⟩
  | 127 => ⟨S4096x1, .i32⟩
  | _ => ⟨S4096x1000, .f32⟩

abbrev hbmTy0_1 (i : Nat) : BufTy := match i % 128 with
  | 0 => ⟨S4096x1, .i32⟩
  | 1 => ⟨S4096x1, .i32⟩
  | 2 => ⟨S_, .i32⟩
  | 3 => ⟨S4096x1, .i32⟩
  | 4 => ⟨S4096x1, .i32⟩
  | 5 => ⟨S4096x1, .i32⟩
  | 6 => ⟨S_, .i32⟩
  | 7 => ⟨S4096x1, .i32⟩
  | 8 => ⟨S4096x1, .i32⟩
  | 9 => ⟨S_, .i32⟩
  | 10 => ⟨S4096x1, .i32⟩
  | 11 => ⟨S4096x1, .i32⟩
  | 12 => ⟨S4096x1, .i32⟩
  | 13 => ⟨S4096x1, .i32⟩
  | 14 => ⟨S4096x1, .i32⟩
  | 15 => ⟨S_, .i32⟩
  | 16 => ⟨S4096x1, .i32⟩
  | 17 => ⟨S4096x1, .i32⟩
  | 18 => ⟨S_, .i32⟩
  | 19 => ⟨S4096x1, .i32⟩
  | 20 => ⟨S4096x1, .i32⟩
  | 21 => ⟨S4096x1, .i32⟩
  | 22 => ⟨S4096x1, .i32⟩
  | 23 => ⟨S4096x1, .i32⟩
  | 24 => ⟨S_, .i32⟩
  | 25 => ⟨S4096x1, .i32⟩
  | 26 => ⟨S4096x1, .i32⟩
  | 27 => ⟨S_, .i32⟩
  | 28 => ⟨S4096x1, .i32⟩
  | 29 => ⟨S4096x1, .i32⟩
  | 30 => ⟨S4096x1, .i32⟩
  | 31 => ⟨S4096x1, .i32⟩
  | 32 => ⟨S4096x1, .i32⟩
  | 33 => ⟨S_, .i32⟩
  | 34 => ⟨S4096x1, .i32⟩
  | 35 => ⟨S4096x1, .i32⟩
  | 36 => ⟨S_, .i32⟩
  | 37 => ⟨S4096x1, .i32⟩
  | 38 => ⟨S4096x1, .i32⟩
  | 39 => ⟨S4096x1, .i32⟩
  | 40 => ⟨S4096x1, .i32⟩
  | 41 => ⟨S4096x1, .i32⟩
  | 42 => ⟨S4096x1, .i32⟩
  | 43 => ⟨S4096x1, .i32⟩
  | 44 => ⟨S4096x1, .i32⟩
  | 45 => ⟨S_, .i32⟩
  | 46 => ⟨S4096x1, .i32⟩
  | 47 => ⟨S4096x1, .i32⟩
  | 48 => ⟨S4096x1, .i32⟩
  | 49 => ⟨S_, .i32⟩
  | 50 => ⟨S4096x1, .i32⟩
  | 51 => ⟨S4096x1, .i32⟩
  | 52 => ⟨S_, .i32⟩
  | 53 => ⟨S4096x1, .i32⟩
  | 54 => ⟨S4096x1, .i32⟩
  | 55 => ⟨S4096x1, .i32⟩
  | 56 => ⟨S4096x1, .i32⟩
  | 57 => ⟨S4096x1, .i32⟩
  | 58 => ⟨S_, .i32⟩
  | 59 => ⟨S4096x1, .i32⟩
  | 60 => ⟨S4096x1, .i32⟩
  | 61 => ⟨S_, .i32⟩
  | 62 => ⟨S4096x1, .i32⟩
  | 63 => ⟨S4096x1, .i32⟩
  | 64 => ⟨S4096x1, .i32⟩
  | 65 => ⟨S4096x1, .i32⟩
  | 66 => ⟨S4096x1, .i32⟩
  | 67 => ⟨S_, .i32⟩
  | 68 => ⟨S4096x1, .i32⟩
  | 69 => ⟨S4096x1, .i32⟩
  | 70 => ⟨S_, .i32⟩
  | 71 => ⟨S4096x1, .i32⟩
  | 72 => ⟨S4096x1, .i32⟩
  | 73 => ⟨S4096x1, .i32⟩
  | 74 => ⟨S4096x1, .i32⟩
  | 75 => ⟨S4096x1, .i32⟩
  | 76 => ⟨S_, .i32⟩
  | 77 => ⟨S4096x1, .i32⟩
  | 78 => ⟨S4096x1, .i32⟩
  | 79 => ⟨S_, .i32⟩
  | 80 => ⟨S4096x1, .i32⟩
  | 81 => ⟨S4096x1, .i32⟩
  | 82 => ⟨S4096x1, .i32⟩
  | 83 => ⟨S4096x1, .i32⟩
  | 84 => ⟨S4096x1, .i32⟩
  | 85 => ⟨S4096x1, .i32⟩
  | 86 => ⟨S4096x1, .i32⟩
  | 87 => ⟨S4096x1, .i32⟩
  | 88 => ⟨S_, .i32⟩
  | 89 => ⟨S4096x1, .i32⟩
  | 90 => ⟨S4096x1, .i32⟩
  | 91 => ⟨S4096x1, .i32⟩
  | 92 => ⟨S_, .i32⟩
  | 93 => ⟨S4096x1, .i32⟩
  | 94 => ⟨S4096x1, .i32⟩
  | 95 => ⟨S_, .i32⟩
  | 96 => ⟨S4096x1, .i32⟩
  | 97 => ⟨S4096x1, .i32⟩
  | 98 => ⟨S4096x1, .i32⟩
  | 99 => ⟨S4096x1, .i32⟩
  | 100 => ⟨S4096x1, .i32⟩
  | 101 => ⟨S_, .i32⟩
  | 102 => ⟨S4096x1, .i32⟩
  | 103 => ⟨S4096x1, .i32⟩
  | 104 => ⟨S_, .i32⟩
  | 105 => ⟨S4096x1, .i32⟩
  | 106 => ⟨S4096x1, .i32⟩
  | 107 => ⟨S4096x1, .i32⟩
  | 108 => ⟨S4096x1, .i32⟩
  | 109 => ⟨S4096x1, .i32⟩
  | 110 => ⟨S_, .i32⟩
  | 111 => ⟨S4096x1, .i32⟩
  | 112 => ⟨S4096x1, .i32⟩
  | 113 => ⟨S_, .i32⟩
  | 114 => ⟨S4096x1, .i32⟩
  | 115 => ⟨S4096x1, .i32⟩
  | 116 => ⟨S4096x1, .i32⟩
  | 117 => ⟨S4096x1, .i32⟩
  | 118 => ⟨S4096x1, .i32⟩
  | 119 => ⟨S_, .i32⟩
  | 120 => ⟨S4096x1, .i32⟩
  | 121 => ⟨S4096x1, .i32⟩
  | 122 => ⟨S_, .i32⟩
  | 123 => ⟨S4096x1, .i32⟩
  | 124 => ⟨S4096x1, .i32⟩
  | 125 => ⟨S4096x1, .i32⟩
  | 126 => ⟨S4096x1, .i32⟩
  | 127 => ⟨S4096x1, .i32⟩
  | _ => ⟨S4096x1000, .f32⟩

abbrev hbmTy0_2 (i : Nat) : BufTy := match i % 128 with
  | 0 => ⟨S4096x1, .i32⟩
  | 1 => ⟨S4096x1, .i32⟩
  | 2 => ⟨S4096x1, .i32⟩
  | 3 => ⟨S_, .i32⟩
  | 4 => ⟨S4096x1, .i32⟩
  | 5 => ⟨S4096x1, .i32⟩
  | 6 => ⟨S4096x1, .i32⟩
  | 7 => ⟨S_, .i32⟩
  | 8 => ⟨S4096x1, .i32⟩
  | 9 => ⟨S4096x1, .i32⟩
  | 10 => ⟨S_, .i32⟩
  | 11 => ⟨S4096x1, .i32⟩
  | 12 => ⟨S4096x1, .i32⟩
  | 13 => ⟨S4096x1, .f32⟩
  | 14 => ⟨S_, .f32⟩
  | 15 => ⟨S4096x1, .f32⟩
  | 16 => ⟨S4096x1, .f32⟩
  | 17 => ⟨S1x1, .f32⟩
  | 18 => ⟨S4096x1, .f32⟩
  | 19 => ⟨S4096x1, .f32⟩
  | 20 => ⟨S4096x1, .f32⟩
  | 21 => ⟨S4096x1, .f32⟩
  | 22 => ⟨S4096x1, .f32⟩
  | 23 => ⟨S4096x1, .f32⟩
  | 24 => ⟨S4096x1, .f32⟩
  | 25 => ⟨S4096x1000, .f32⟩
  | 26 => ⟨S4096x1000, .i1⟩
  | 27 => ⟨S4096x1000, .i32⟩
  | 28 => ⟨S_, .i32⟩
  | 29 => ⟨S4096, .i32⟩
  | 30 => ⟨S4096x1, .i32⟩
  | 31 => ⟨S_, .i32⟩
  | 32 => ⟨S_, .i32⟩
  | 33 => ⟨S_, .i32⟩
  | 34 => ⟨S4096x1, .i32⟩
  | 35 => ⟨S4096x1, .i32⟩
  | 36 => ⟨S_, .i32⟩
  | 37 => ⟨S4096x1, .i32⟩
  | 38 => ⟨S4096x1, .i32⟩
  | 39 => ⟨S_, .i32⟩
  | 40 => ⟨S4096x1, .i32⟩
  | 41 => ⟨S4096x1, .i1⟩
  | 42 => ⟨S_, .i32⟩
  | 43 => ⟨S4096x1, .i32⟩
  | 44 => ⟨S4096x1, .i32⟩
  | 45 => ⟨S4096x1, .i32⟩
  | 46 => ⟨S4096x1x1, .i32⟩
  | 47 => ⟨S1, .i32⟩
  | 48 => ⟨S_, .i32⟩
  | 49 => ⟨S4096x1x1, .i32⟩
  | 50 => ⟨S4096x1x1, .i1⟩
  | 51 => ⟨S1x1x1, .i32⟩
  | 52 => ⟨S4096x1x1, .i32⟩
  | 53 => ⟨S4096x1x1, .i1⟩
  | 54 => ⟨S4096x1x1, .i1⟩
  | 55 => ⟨S_, .i1⟩
  | 56 => ⟨S4096x1, .i1⟩
  | 57 => ⟨S4096x1, .f32⟩
  | 58 => ⟨S_, .f32⟩
  | 59 => ⟨S4096x1, .f32⟩
  | 60 => ⟨S4096x1, .f32⟩
  | 61 => ⟨S1000x128, .f32⟩
  | 62 => ⟨S4096, .i32⟩
  | 63 => ⟨S_, .i32⟩
  | 64 => ⟨S4096, .i32⟩
  | 65 => ⟨S4096, .i1⟩
  | 66 => ⟨S_, .i32⟩
  | 67 => ⟨S4096, .i32⟩
  | 68 => ⟨S4096, .i32⟩
  | 69 => ⟨S4096, .i32⟩
  | 70 => ⟨S4096x1, .i32⟩
  | 71 => ⟨S1, .i32⟩
  | 72 => ⟨S_, .i32⟩
  | 73 => ⟨S4096x1, .i32⟩
  | 74 => ⟨S4096x1, .i1⟩
  | 75 => ⟨S1x1, .i32⟩
  | 76 => ⟨S4096x1, .i32⟩
  | 77 => ⟨S4096x1, .i1⟩
  | 78 => ⟨S4096x1, .i1⟩
  | 79 => ⟨S_, .i1⟩
  | 80 => ⟨S4096, .i1⟩
  | 81 => ⟨S4096x128, .f32⟩
  | 82 => ⟨S4096x128, .i1⟩
  | 83 => ⟨S_, .f32⟩
  | 84 => ⟨S4096x128, .f32⟩
  | 85 => ⟨S4096x128, .f32⟩
  | _ => ⟨S4096x1000, .f32⟩

abbrev hbmTy (i : Nat) : BufTy := match i / 128 with
  | 0 => hbmTy0_0 i
  | 1 => hbmTy0_1 i
  | 2 => hbmTy0_2 i
  | _ => ⟨S4096x1000, .f32⟩

abbrev bufTy : (tb : Table) → Fin (tcTables nBuf tb) → BufTy
  | .hbm, ⟨i, _⟩ => hbmTy i
  | _, _ => ⟨S4096x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_call0_cst : Ref sig .tc := ⟨.hbm, 2, rfl⟩
abbrev main_call0_call0_v0 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_cst_2 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_call1_v9 : Ref sig .tc := ⟨.hbm, 27, rfl⟩
abbrev main_call1_c : Ref sig .tc := ⟨.hbm, 28, rfl⟩
abbrev main_call1_v10 : Ref sig .tc := ⟨.hbm, 29, rfl⟩
abbrev main_call1_v11 : Ref sig .tc := ⟨.hbm, 30, rfl⟩
abbrev main_call1_c_0 : Ref sig .tc := ⟨.hbm, 31, rfl⟩
abbrev main_call1_v12 : Ref sig .tc := ⟨.hbm, 32, rfl⟩
abbrev main_call1_v13 : Ref sig .tc := ⟨.hbm, 33, rfl⟩
abbrev main_call1_v14 : Ref sig .tc := ⟨.hbm, 34, rfl⟩
abbrev main_call1_c_1 : Ref sig .tc := ⟨.hbm, 35, rfl⟩
abbrev main_call1_v15 : Ref sig .tc := ⟨.hbm, 36, rfl⟩
abbrev main_call1_v16 : Ref sig .tc := ⟨.hbm, 37, rfl⟩
abbrev main_call1_v17 : Ref sig .tc := ⟨.hbm, 38, rfl⟩
abbrev main_call1_v18 : Ref sig .tc := ⟨.hbm, 39, rfl⟩
abbrev main_call1_call0_v0 : Ref sig .tc := ⟨.hbm, 40, rfl⟩
abbrev main_call1_call0_c : Ref sig .tc := ⟨.hbm, 41, rfl⟩
abbrev main_call1_call0_v1 : Ref sig .tc := ⟨.hbm, 42, rfl⟩
abbrev main_call1_call0_v2 : Ref sig .tc := ⟨.hbm, 43, rfl⟩
abbrev main_call1_call0_v3 : Ref sig .tc := ⟨.hbm, 44, rfl⟩
abbrev main_call1_call0_v4 : Ref sig .tc := ⟨.hbm, 45, rfl⟩
abbrev main_call1_call0_v5 : Ref sig .tc := ⟨.hbm, 46, rfl⟩
abbrev main_call1_call0_v6 : Ref sig .tc := ⟨.hbm, 47, rfl⟩
abbrev main_call1_call0_c_0 : Ref sig .tc := ⟨.hbm, 48, rfl⟩
abbrev main_call1_call0_v7 : Ref sig .tc := ⟨.hbm, 49, rfl⟩
abbrev main_call1_call0_v8 : Ref sig .tc := ⟨.hbm, 50, rfl⟩
abbrev main_call1_call0_c_1 : Ref sig .tc := ⟨.hbm, 51, rfl⟩
abbrev main_call1_call0_v9 : Ref sig .tc := ⟨.hbm, 52, rfl⟩
abbrev main_call1_call0_v10 : Ref sig .tc := ⟨.hbm, 53, rfl⟩
abbrev main_call1_call0_v11 : Ref sig .tc := ⟨.hbm, 54, rfl⟩
abbrev main_call1_call0_v12 : Ref sig .tc := ⟨.hbm, 55, rfl⟩
abbrev main_call1_call0_v13 : Ref sig .tc := ⟨.hbm, 56, rfl⟩
abbrev main_call1_call0_c_2 : Ref sig .tc := ⟨.hbm, 57, rfl⟩
abbrev main_call1_call0_v14 : Ref sig .tc := ⟨.hbm, 58, rfl⟩
abbrev main_call1_call0_v15 : Ref sig .tc := ⟨.hbm, 59, rfl⟩
abbrev main_call1_call0_c_3 : Ref sig .tc := ⟨.hbm, 60, rfl⟩
abbrev main_call1_call0_v16 : Ref sig .tc := ⟨.hbm, 61, rfl⟩
abbrev main_call1_call0_v17 : Ref sig .tc := ⟨.hbm, 62, rfl⟩
abbrev main_call1_call0_v18 : Ref sig .tc := ⟨.hbm, 63, rfl⟩
abbrev main_call1_call0_v19 : Ref sig .tc := ⟨.hbm, 64, rfl⟩
abbrev main_call1_call0_v20 : Ref sig .tc := ⟨.hbm, 65, rfl⟩
abbrev main_call1_call0_c_4 : Ref sig .tc := ⟨.hbm, 66, rfl⟩
abbrev main_call1_call0_v21 : Ref sig .tc := ⟨.hbm, 67, rfl⟩
abbrev main_call1_call0_v22 : Ref sig .tc := ⟨.hbm, 68, rfl⟩
abbrev main_call1_call0_c_5 : Ref sig .tc := ⟨.hbm, 69, rfl⟩
abbrev main_call1_call0_v23 : Ref sig .tc := ⟨.hbm, 70, rfl⟩
abbrev main_call1_call0_v24 : Ref sig .tc := ⟨.hbm, 71, rfl⟩
abbrev main_call1_call0_v25 : Ref sig .tc := ⟨.hbm, 72, rfl⟩
abbrev main_call1_call0_v26 : Ref sig .tc := ⟨.hbm, 73, rfl⟩
abbrev main_call1_call0_v27 : Ref sig .tc := ⟨.hbm, 74, rfl⟩
abbrev main_call1_call0_c_6 : Ref sig .tc := ⟨.hbm, 75, rfl⟩
abbrev main_call1_call0_v28 : Ref sig .tc := ⟨.hbm, 76, rfl⟩
abbrev main_call1_call0_v29 : Ref sig .tc := ⟨.hbm, 77, rfl⟩
abbrev main_call1_call0_c_7 : Ref sig .tc := ⟨.hbm, 78, rfl⟩
abbrev main_call1_call0_v30 : Ref sig .tc := ⟨.hbm, 79, rfl⟩
abbrev main_call1_call0_v31 : Ref sig .tc := ⟨.hbm, 80, rfl⟩
abbrev main_call1_call0_v32 : Ref sig .tc := ⟨.hbm, 81, rfl⟩
abbrev main_call1_call0_v33 : Ref sig .tc := ⟨.hbm, 82, rfl⟩
abbrev main_call1_call0_v34 : Ref sig .tc := ⟨.hbm, 83, rfl⟩
abbrev main_call1_call0_v35 : Ref sig .tc := ⟨.hbm, 84, rfl⟩
abbrev main_call1_call0_v36 : Ref sig .tc := ⟨.hbm, 85, rfl⟩
abbrev main_call1_call0_v37 : Ref sig .tc := ⟨.hbm, 86, rfl⟩
abbrev main_call1_call0_c_8 : Ref sig .tc := ⟨.hbm, 87, rfl⟩
abbrev main_call1_call0_v38 : Ref sig .tc := ⟨.hbm, 88, rfl⟩
abbrev main_call1_call0_v39 : Ref sig .tc := ⟨.hbm, 89, rfl⟩
abbrev main_call1_call0_v40 : Ref sig .tc := ⟨.hbm, 90, rfl⟩
abbrev main_call1_call0_c_9 : Ref sig .tc := ⟨.hbm, 91, rfl⟩
abbrev main_call1_call0_v41 : Ref sig .tc := ⟨.hbm, 92, rfl⟩
abbrev main_call1_call0_v42 : Ref sig .tc := ⟨.hbm, 93, rfl⟩
abbrev main_call1_call0_c_10 : Ref sig .tc := ⟨.hbm, 94, rfl⟩
abbrev main_call1_call0_v43 : Ref sig .tc := ⟨.hbm, 95, rfl⟩
abbrev main_call1_call0_v44 : Ref sig .tc := ⟨.hbm, 96, rfl⟩
abbrev main_call1_call0_v45 : Ref sig .tc := ⟨.hbm, 97, rfl⟩
abbrev main_call1_call0_v46 : Ref sig .tc := ⟨.hbm, 98, rfl⟩
abbrev main_call1_call0_v47 : Ref sig .tc := ⟨.hbm, 99, rfl⟩
abbrev main_call1_call0_c_11 : Ref sig .tc := ⟨.hbm, 100, rfl⟩
abbrev main_call1_call0_v48 : Ref sig .tc := ⟨.hbm, 101, rfl⟩
abbrev main_call1_call0_v49 : Ref sig .tc := ⟨.hbm, 102, rfl⟩
abbrev main_call1_call0_c_12 : Ref sig .tc := ⟨.hbm, 103, rfl⟩
abbrev main_call1_call0_v50 : Ref sig .tc := ⟨.hbm, 104, rfl⟩
abbrev main_call1_call0_v51 : Ref sig .tc := ⟨.hbm, 105, rfl⟩
abbrev main_call1_call0_v52 : Ref sig .tc := ⟨.hbm, 106, rfl⟩
abbrev main_call1_call0_v53 : Ref sig .tc := ⟨.hbm, 107, rfl⟩
abbrev main_call1_call0_v54 : Ref sig .tc := ⟨.hbm, 108, rfl⟩
abbrev main_call1_call0_c_13 : Ref sig .tc := ⟨.hbm, 109, rfl⟩
abbrev main_call1_call0_v55 : Ref sig .tc := ⟨.hbm, 110, rfl⟩
abbrev main_call1_call0_v56 : Ref sig .tc := ⟨.hbm, 111, rfl⟩
abbrev main_call1_call0_c_14 : Ref sig .tc := ⟨.hbm, 112, rfl⟩
abbrev main_call1_call0_v57 : Ref sig .tc := ⟨.hbm, 113, rfl⟩
abbrev main_call1_call0_v58 : Ref sig .tc := ⟨.hbm, 114, rfl⟩
abbrev main_call1_call0_v59 : Ref sig .tc := ⟨.hbm, 115, rfl⟩
abbrev main_call1_call0_v60 : Ref sig .tc := ⟨.hbm, 116, rfl⟩
abbrev main_call1_call0_v61 : Ref sig .tc := ⟨.hbm, 117, rfl⟩
abbrev main_call1_call0_c_15 : Ref sig .tc := ⟨.hbm, 118, rfl⟩
abbrev main_call1_call0_v62 : Ref sig .tc := ⟨.hbm, 119, rfl⟩
abbrev main_call1_call0_v63 : Ref sig .tc := ⟨.hbm, 120, rfl⟩
abbrev main_call1_call0_c_16 : Ref sig .tc := ⟨.hbm, 121, rfl⟩
abbrev main_call1_call0_v64 : Ref sig .tc := ⟨.hbm, 122, rfl⟩
abbrev main_call1_call0_v65 : Ref sig .tc := ⟨.hbm, 123, rfl⟩
abbrev main_call1_call0_v66 : Ref sig .tc := ⟨.hbm, 124, rfl⟩
abbrev main_call1_call0_v67 : Ref sig .tc := ⟨.hbm, 125, rfl⟩
abbrev main_call1_call0_v68 : Ref sig .tc := ⟨.hbm, 126, rfl⟩
abbrev main_call1_call0_v69 : Ref sig .tc := ⟨.hbm, 127, rfl⟩
abbrev main_call1_call0_v70 : Ref sig .tc := ⟨.hbm, 128, rfl⟩
abbrev main_call1_call0_v71 : Ref sig .tc := ⟨.hbm, 129, rfl⟩
abbrev main_call1_call0_c_17 : Ref sig .tc := ⟨.hbm, 130, rfl⟩
abbrev main_call1_call0_v72 : Ref sig .tc := ⟨.hbm, 131, rfl⟩
abbrev main_call1_call0_v73 : Ref sig .tc := ⟨.hbm, 132, rfl⟩
abbrev main_call1_call0_v74 : Ref sig .tc := ⟨.hbm, 133, rfl⟩
abbrev main_call1_call0_c_18 : Ref sig .tc := ⟨.hbm, 134, rfl⟩
abbrev main_call1_call0_v75 : Ref sig .tc := ⟨.hbm, 135, rfl⟩
abbrev main_call1_call0_v76 : Ref sig .tc := ⟨.hbm, 136, rfl⟩
abbrev main_call1_call0_c_19 : Ref sig .tc := ⟨.hbm, 137, rfl⟩
abbrev main_call1_call0_v77 : Ref sig .tc := ⟨.hbm, 138, rfl⟩
abbrev main_call1_call0_v78 : Ref sig .tc := ⟨.hbm, 139, rfl⟩
abbrev main_call1_call0_v79 : Ref sig .tc := ⟨.hbm, 140, rfl⟩
abbrev main_call1_call0_v80 : Ref sig .tc := ⟨.hbm, 141, rfl⟩
abbrev main_call1_call0_v81 : Ref sig .tc := ⟨.hbm, 142, rfl⟩
abbrev main_call1_call0_c_20 : Ref sig .tc := ⟨.hbm, 143, rfl⟩
abbrev main_call1_call0_v82 : Ref sig .tc := ⟨.hbm, 144, rfl⟩
abbrev main_call1_call0_v83 : Ref sig .tc := ⟨.hbm, 145, rfl⟩
abbrev main_call1_call0_c_21 : Ref sig .tc := ⟨.hbm, 146, rfl⟩
abbrev main_call1_call0_v84 : Ref sig .tc := ⟨.hbm, 147, rfl⟩
abbrev main_call1_call0_v85 : Ref sig .tc := ⟨.hbm, 148, rfl⟩
abbrev main_call1_call0_v86 : Ref sig .tc := ⟨.hbm, 149, rfl⟩
abbrev main_call1_call0_v87 : Ref sig .tc := ⟨.hbm, 150, rfl⟩
abbrev main_call1_call0_v88 : Ref sig .tc := ⟨.hbm, 151, rfl⟩
abbrev main_call1_call0_c_22 : Ref sig .tc := ⟨.hbm, 152, rfl⟩
abbrev main_call1_call0_v89 : Ref sig .tc := ⟨.hbm, 153, rfl⟩
abbrev main_call1_call0_v90 : Ref sig .tc := ⟨.hbm, 154, rfl⟩
abbrev main_call1_call0_c_23 : Ref sig .tc := ⟨.hbm, 155, rfl⟩
abbrev main_call1_call0_v91 : Ref sig .tc := ⟨.hbm, 156, rfl⟩
abbrev main_call1_call0_v92 : Ref sig .tc := ⟨.hbm, 157, rfl⟩
abbrev main_call1_call0_v93 : Ref sig .tc := ⟨.hbm, 158, rfl⟩
abbrev main_call1_call0_v94 : Ref sig .tc := ⟨.hbm, 159, rfl⟩
abbrev main_call1_call0_v95 : Ref sig .tc := ⟨.hbm, 160, rfl⟩
abbrev main_call1_call0_c_24 : Ref sig .tc := ⟨.hbm, 161, rfl⟩
abbrev main_call1_call0_v96 : Ref sig .tc := ⟨.hbm, 162, rfl⟩
abbrev main_call1_call0_v97 : Ref sig .tc := ⟨.hbm, 163, rfl⟩
abbrev main_call1_call0_c_25 : Ref sig .tc := ⟨.hbm, 164, rfl⟩
abbrev main_call1_call0_v98 : Ref sig .tc := ⟨.hbm, 165, rfl⟩
abbrev main_call1_call0_v99 : Ref sig .tc := ⟨.hbm, 166, rfl⟩
abbrev main_call1_call0_v100 : Ref sig .tc := ⟨.hbm, 167, rfl⟩
abbrev main_call1_call0_v101 : Ref sig .tc := ⟨.hbm, 168, rfl⟩
abbrev main_call1_call0_v102 : Ref sig .tc := ⟨.hbm, 169, rfl⟩
abbrev main_call1_call0_v103 : Ref sig .tc := ⟨.hbm, 170, rfl⟩
abbrev main_call1_call0_v104 : Ref sig .tc := ⟨.hbm, 171, rfl⟩
abbrev main_call1_call0_v105 : Ref sig .tc := ⟨.hbm, 172, rfl⟩
abbrev main_call1_call0_c_26 : Ref sig .tc := ⟨.hbm, 173, rfl⟩
abbrev main_call1_call0_v106 : Ref sig .tc := ⟨.hbm, 174, rfl⟩
abbrev main_call1_call0_v107 : Ref sig .tc := ⟨.hbm, 175, rfl⟩
abbrev main_call1_call0_v108 : Ref sig .tc := ⟨.hbm, 176, rfl⟩
abbrev main_call1_call0_c_27 : Ref sig .tc := ⟨.hbm, 177, rfl⟩
abbrev main_call1_call0_v109 : Ref sig .tc := ⟨.hbm, 178, rfl⟩
abbrev main_call1_call0_v110 : Ref sig .tc := ⟨.hbm, 179, rfl⟩
abbrev main_call1_call0_c_28 : Ref sig .tc := ⟨.hbm, 180, rfl⟩
abbrev main_call1_call0_v111 : Ref sig .tc := ⟨.hbm, 181, rfl⟩
abbrev main_call1_call0_v112 : Ref sig .tc := ⟨.hbm, 182, rfl⟩
abbrev main_call1_call0_v113 : Ref sig .tc := ⟨.hbm, 183, rfl⟩
abbrev main_call1_call0_v114 : Ref sig .tc := ⟨.hbm, 184, rfl⟩
abbrev main_call1_call0_v115 : Ref sig .tc := ⟨.hbm, 185, rfl⟩
abbrev main_call1_call0_c_29 : Ref sig .tc := ⟨.hbm, 186, rfl⟩
abbrev main_call1_call0_v116 : Ref sig .tc := ⟨.hbm, 187, rfl⟩
abbrev main_call1_call0_v117 : Ref sig .tc := ⟨.hbm, 188, rfl⟩
abbrev main_call1_call0_c_30 : Ref sig .tc := ⟨.hbm, 189, rfl⟩
abbrev main_call1_call0_v118 : Ref sig .tc := ⟨.hbm, 190, rfl⟩
abbrev main_call1_call0_v119 : Ref sig .tc := ⟨.hbm, 191, rfl⟩
abbrev main_call1_call0_v120 : Ref sig .tc := ⟨.hbm, 192, rfl⟩
abbrev main_call1_call0_v121 : Ref sig .tc := ⟨.hbm, 193, rfl⟩
abbrev main_call1_call0_v122 : Ref sig .tc := ⟨.hbm, 194, rfl⟩
abbrev main_call1_call0_c_31 : Ref sig .tc := ⟨.hbm, 195, rfl⟩
abbrev main_call1_call0_v123 : Ref sig .tc := ⟨.hbm, 196, rfl⟩
abbrev main_call1_call0_v124 : Ref sig .tc := ⟨.hbm, 197, rfl⟩
abbrev main_call1_call0_c_32 : Ref sig .tc := ⟨.hbm, 198, rfl⟩
abbrev main_call1_call0_v125 : Ref sig .tc := ⟨.hbm, 199, rfl⟩
abbrev main_call1_call0_v126 : Ref sig .tc := ⟨.hbm, 200, rfl⟩
abbrev main_call1_call0_v127 : Ref sig .tc := ⟨.hbm, 201, rfl⟩
abbrev main_call1_call0_v128 : Ref sig .tc := ⟨.hbm, 202, rfl⟩
abbrev main_call1_call0_v129 : Ref sig .tc := ⟨.hbm, 203, rfl⟩
abbrev main_call1_call0_c_33 : Ref sig .tc := ⟨.hbm, 204, rfl⟩
abbrev main_call1_call0_v130 : Ref sig .tc := ⟨.hbm, 205, rfl⟩
abbrev main_call1_call0_v131 : Ref sig .tc := ⟨.hbm, 206, rfl⟩
abbrev main_call1_call0_c_34 : Ref sig .tc := ⟨.hbm, 207, rfl⟩
abbrev main_call1_call0_v132 : Ref sig .tc := ⟨.hbm, 208, rfl⟩
abbrev main_call1_call0_v133 : Ref sig .tc := ⟨.hbm, 209, rfl⟩
abbrev main_call1_call0_v134 : Ref sig .tc := ⟨.hbm, 210, rfl⟩
abbrev main_call1_call0_v135 : Ref sig .tc := ⟨.hbm, 211, rfl⟩
abbrev main_call1_call0_v136 : Ref sig .tc := ⟨.hbm, 212, rfl⟩
abbrev main_call1_call0_v137 : Ref sig .tc := ⟨.hbm, 213, rfl⟩
abbrev main_call1_call0_v138 : Ref sig .tc := ⟨.hbm, 214, rfl⟩
abbrev main_call1_call0_v139 : Ref sig .tc := ⟨.hbm, 215, rfl⟩
abbrev main_call1_call0_c_35 : Ref sig .tc := ⟨.hbm, 216, rfl⟩
abbrev main_call1_call0_v140 : Ref sig .tc := ⟨.hbm, 217, rfl⟩
abbrev main_call1_call0_v141 : Ref sig .tc := ⟨.hbm, 218, rfl⟩
abbrev main_call1_call0_v142 : Ref sig .tc := ⟨.hbm, 219, rfl⟩
abbrev main_call1_call0_c_36 : Ref sig .tc := ⟨.hbm, 220, rfl⟩
abbrev main_call1_call0_v143 : Ref sig .tc := ⟨.hbm, 221, rfl⟩
abbrev main_call1_call0_v144 : Ref sig .tc := ⟨.hbm, 222, rfl⟩
abbrev main_call1_call0_c_37 : Ref sig .tc := ⟨.hbm, 223, rfl⟩
abbrev main_call1_call0_v145 : Ref sig .tc := ⟨.hbm, 224, rfl⟩
abbrev main_call1_call0_v146 : Ref sig .tc := ⟨.hbm, 225, rfl⟩
abbrev main_call1_call0_v147 : Ref sig .tc := ⟨.hbm, 226, rfl⟩
abbrev main_call1_call0_v148 : Ref sig .tc := ⟨.hbm, 227, rfl⟩
abbrev main_call1_call0_v149 : Ref sig .tc := ⟨.hbm, 228, rfl⟩
abbrev main_call1_call0_c_38 : Ref sig .tc := ⟨.hbm, 229, rfl⟩
abbrev main_call1_call0_v150 : Ref sig .tc := ⟨.hbm, 230, rfl⟩
abbrev main_call1_call0_v151 : Ref sig .tc := ⟨.hbm, 231, rfl⟩
abbrev main_call1_call0_c_39 : Ref sig .tc := ⟨.hbm, 232, rfl⟩
abbrev main_call1_call0_v152 : Ref sig .tc := ⟨.hbm, 233, rfl⟩
abbrev main_call1_call0_v153 : Ref sig .tc := ⟨.hbm, 234, rfl⟩
abbrev main_call1_call0_v154 : Ref sig .tc := ⟨.hbm, 235, rfl⟩
abbrev main_call1_call0_v155 : Ref sig .tc := ⟨.hbm, 236, rfl⟩
abbrev main_call1_call0_v156 : Ref sig .tc := ⟨.hbm, 237, rfl⟩
abbrev main_call1_call0_c_40 : Ref sig .tc := ⟨.hbm, 238, rfl⟩
abbrev main_call1_call0_v157 : Ref sig .tc := ⟨.hbm, 239, rfl⟩
abbrev main_call1_call0_v158 : Ref sig .tc := ⟨.hbm, 240, rfl⟩
abbrev main_call1_call0_c_41 : Ref sig .tc := ⟨.hbm, 241, rfl⟩
abbrev main_call1_call0_v159 : Ref sig .tc := ⟨.hbm, 242, rfl⟩
abbrev main_call1_call0_v160 : Ref sig .tc := ⟨.hbm, 243, rfl⟩
abbrev main_call1_call0_v161 : Ref sig .tc := ⟨.hbm, 244, rfl⟩
abbrev main_call1_call0_v162 : Ref sig .tc := ⟨.hbm, 245, rfl⟩
abbrev main_call1_call0_v163 : Ref sig .tc := ⟨.hbm, 246, rfl⟩
abbrev main_call1_call0_c_42 : Ref sig .tc := ⟨.hbm, 247, rfl⟩
abbrev main_call1_call0_v164 : Ref sig .tc := ⟨.hbm, 248, rfl⟩
abbrev main_call1_call0_v165 : Ref sig .tc := ⟨.hbm, 249, rfl⟩
abbrev main_call1_call0_c_43 : Ref sig .tc := ⟨.hbm, 250, rfl⟩
abbrev main_call1_call0_v166 : Ref sig .tc := ⟨.hbm, 251, rfl⟩
abbrev main_call1_call0_v167 : Ref sig .tc := ⟨.hbm, 252, rfl⟩
abbrev main_call1_call0_v168 : Ref sig .tc := ⟨.hbm, 253, rfl⟩
abbrev main_call1_call0_v169 : Ref sig .tc := ⟨.hbm, 254, rfl⟩
abbrev main_call1_call0_v170 : Ref sig .tc := ⟨.hbm, 255, rfl⟩
abbrev main_call1_v19_0 : Ref sig .tc := ⟨.hbm, 256, rfl⟩
abbrev main_call1_call0_v172 : Ref sig .tc := ⟨.hbm, 257, rfl⟩
abbrev main_call1_call0_v173 : Ref sig .tc := ⟨.hbm, 258, rfl⟩
abbrev main_call1_call0_c_44 : Ref sig .tc := ⟨.hbm, 259, rfl⟩
abbrev main_call1_call0_v174 : Ref sig .tc := ⟨.hbm, 260, rfl⟩
abbrev main_call1_v19_1 : Ref sig .tc := ⟨.hbm, 261, rfl⟩
abbrev main_call1_v20 : Ref sig .tc := ⟨.hbm, 262, rfl⟩
abbrev main_call1_c_2 : Ref sig .tc := ⟨.hbm, 263, rfl⟩
abbrev main_call1_v21 : Ref sig .tc := ⟨.hbm, 264, rfl⟩
abbrev main_call1_v22 : Ref sig .tc := ⟨.hbm, 265, rfl⟩
abbrev main_call1_c_3 : Ref sig .tc := ⟨.hbm, 266, rfl⟩
abbrev main_call1_v23 : Ref sig .tc := ⟨.hbm, 267, rfl⟩
abbrev main_call1_v24 : Ref sig .tc := ⟨.hbm, 268, rfl⟩
abbrev main_call1_v25 : Ref sig .tc := ⟨.hbm, 269, rfl⟩
abbrev main_call1_cst : Ref sig .tc := ⟨.hbm, 270, rfl⟩
abbrev main_call1_v26 : Ref sig .tc := ⟨.hbm, 271, rfl⟩
abbrev main_call1_v27 : Ref sig .tc := ⟨.hbm, 272, rfl⟩
abbrev main_call1_v28 : Ref sig .tc := ⟨.hbm, 273, rfl⟩
abbrev main_call1_v29 : Ref sig .tc := ⟨.hbm, 274, rfl⟩
abbrev main_call1_v30 : Ref sig .tc := ⟨.hbm, 275, rfl⟩
abbrev main_call1_v31 : Ref sig .tc := ⟨.hbm, 276, rfl⟩
abbrev main_call1_v32 : Ref sig .tc := ⟨.hbm, 277, rfl⟩
abbrev main_call1_v33 : Ref sig .tc := ⟨.hbm, 278, rfl⟩
abbrev main_v9 : Ref sig .tc := ⟨.hbm, 279, rfl⟩
abbrev main_v10 : Ref sig .tc := ⟨.hbm, 280, rfl⟩
abbrev main_v11 : Ref sig .tc := ⟨.hbm, 281, rfl⟩
abbrev main_v12 : Ref sig .tc := ⟨.hbm, 282, rfl⟩
abbrev main_v13 : Ref sig .tc := ⟨.hbm, 283, rfl⟩
abbrev main_c_3 : Ref sig .tc := ⟨.hbm, 284, rfl⟩
abbrev main_v14 : Ref sig .tc := ⟨.hbm, 285, rfl⟩
abbrev main_v15 : Ref sig .tc := ⟨.hbm, 286, rfl⟩
abbrev main_c_4 : Ref sig .tc := ⟨.hbm, 287, rfl⟩
abbrev main_c_5 : Ref sig .tc := ⟨.hbm, 288, rfl⟩
abbrev main_call2_v0 : Ref sig .tc := ⟨.hbm, 289, rfl⟩
abbrev main_call2_v1 : Ref sig .tc := ⟨.hbm, 290, rfl⟩
abbrev main_call2_v2 : Ref sig .tc := ⟨.hbm, 291, rfl⟩
abbrev main_call2_v3 : Ref sig .tc := ⟨.hbm, 292, rfl⟩
abbrev main_call2_v4 : Ref sig .tc := ⟨.hbm, 293, rfl⟩
abbrev main_v16 : Ref sig .tc := ⟨.hbm, 294, rfl⟩
abbrev main_call3_c : Ref sig .tc := ⟨.hbm, 295, rfl⟩
abbrev main_call3_v0 : Ref sig .tc := ⟨.hbm, 296, rfl⟩
abbrev main_call3_v1 : Ref sig .tc := ⟨.hbm, 297, rfl⟩
abbrev main_call3_c_0 : Ref sig .tc := ⟨.hbm, 298, rfl⟩
abbrev main_call3_v2 : Ref sig .tc := ⟨.hbm, 299, rfl⟩
abbrev main_call3_v3 : Ref sig .tc := ⟨.hbm, 300, rfl⟩
abbrev main_call3_v4 : Ref sig .tc := ⟨.hbm, 301, rfl⟩
abbrev main_call3_v5 : Ref sig .tc := ⟨.hbm, 302, rfl⟩
abbrev main_call3_c_1 : Ref sig .tc := ⟨.hbm, 303, rfl⟩
abbrev main_call3_c_2 : Ref sig .tc := ⟨.hbm, 304, rfl⟩
abbrev main_call3_v6 : Ref sig .tc := ⟨.hbm, 305, rfl⟩
abbrev main_call3_v7 : Ref sig .tc := ⟨.hbm, 306, rfl⟩
abbrev main_call3_v8 : Ref sig .tc := ⟨.hbm, 307, rfl⟩
abbrev main_call3_v9 : Ref sig .tc := ⟨.hbm, 308, rfl⟩
abbrev main_call3_v10 : Ref sig .tc := ⟨.hbm, 309, rfl⟩
abbrev main_call3_v11 : Ref sig .tc := ⟨.hbm, 310, rfl⟩
abbrev main_call3_c_3 : Ref sig .tc := ⟨.hbm, 311, rfl⟩
abbrev main_call3_v12 : Ref sig .tc := ⟨.hbm, 312, rfl⟩
abbrev main_call3_v13 : Ref sig .tc := ⟨.hbm, 313, rfl⟩
abbrev main_call3_cst : Ref sig .tc := ⟨.hbm, 314, rfl⟩
abbrev main_call3_v14 : Ref sig .tc := ⟨.hbm, 315, rfl⟩
abbrev main_v17 : Ref sig .tc := ⟨.hbm, 316, rfl⟩
abbrev main_v18 : Ref sig .tc := ⟨.hbm, 317, rfl⟩
abbrev main_v19 : Ref sig .tc := ⟨.hbm, 318, rfl⟩
abbrev main_call4_c : Ref sig .tc := ⟨.hbm, 319, rfl⟩
abbrev main_call4_v0 : Ref sig .tc := ⟨.hbm, 320, rfl⟩
abbrev main_call4_v1 : Ref sig .tc := ⟨.hbm, 321, rfl⟩
abbrev main_call4_c_0 : Ref sig .tc := ⟨.hbm, 322, rfl⟩
abbrev main_call4_v2 : Ref sig .tc := ⟨.hbm, 323, rfl⟩
abbrev main_call4_v3 : Ref sig .tc := ⟨.hbm, 324, rfl⟩
abbrev main_call4_v4 : Ref sig .tc := ⟨.hbm, 325, rfl⟩
abbrev main_call4_v5 : Ref sig .tc := ⟨.hbm, 326, rfl⟩
abbrev main_call4_c_1 : Ref sig .tc := ⟨.hbm, 327, rfl⟩
abbrev main_call4_c_2 : Ref sig .tc := ⟨.hbm, 328, rfl⟩
abbrev main_call4_v6 : Ref sig .tc := ⟨.hbm, 329, rfl⟩
abbrev main_call4_v7 : Ref sig .tc := ⟨.hbm, 330, rfl⟩
abbrev main_call4_v8 : Ref sig .tc := ⟨.hbm, 331, rfl⟩
abbrev main_call4_v9 : Ref sig .tc := ⟨.hbm, 332, rfl⟩
abbrev main_call4_v10 : Ref sig .tc := ⟨.hbm, 333, rfl⟩
abbrev main_call4_v11 : Ref sig .tc := ⟨.hbm, 334, rfl⟩
abbrev main_call4_c_3 : Ref sig .tc := ⟨.hbm, 335, rfl⟩
abbrev main_call4_v12 : Ref sig .tc := ⟨.hbm, 336, rfl⟩
abbrev main_call4_v13 : Ref sig .tc := ⟨.hbm, 337, rfl⟩
abbrev main_call4_v14 : Ref sig .tc := ⟨.hbm, 338, rfl⟩
abbrev main_call4_cst : Ref sig .tc := ⟨.hbm, 339, rfl⟩
abbrev main_call4_v15 : Ref sig .tc := ⟨.hbm, 340, rfl⟩
abbrev main_v20 : Ref sig .tc := ⟨.hbm, 341, rfl⟩

abbrev nD : Nat := 1
abbrev τ : Topo := Topo.v7x

variable {F : FTy → Type} [FloatOps F]
-- ==== Proof.Columns.lean ====
/-
  What one block's first scratch array holds: the block's weights turned on their side, in eight chunks of 128 positions,
  with zeros past the last position.
-/
module

public import proofs.«01_k».proof.Proof.Gen.KernelIdeal.Frame
public import Idealize.ShloMosaic.PureOps.Ideal
public import Idealize.ShloMosaic.Lib.Pointwise

@[expose] public section
set_option maxRecDepth 16384
noncomputable section
namespace Cert.KernelIdeal.Gen
open Idealize.ShloMosaic

/-- The weight at position `g` of row `b` of a block, and zero past the last position. -/
def wt (x : Vec Ideal S1024x1000 .f32) (g : ℕ) (b : Fin 1024) : EReal :=
  if h : g < 1000 then x (ix2 b ⟨g, h⟩) else 0

theorem wt_of_lt (x : Vec Ideal S1024x1000 .f32) {g : ℕ} (h : g < 1000) (b : Fin 1024) : wt x g b = x (ix2 b ⟨g, h⟩) := dif_pos h

theorem wt_of_ge (x : Vec Ideal S1024x1000 .f32) {g : ℕ} (h : ¬ g < 1000) (b : Fin 1024) : wt x g b = 0 := dif_neg h

/-- The turned block: entry `(i, c, b)` is the weight at position `128 c + i` of row `b`. -/
def turned (x : Vec Ideal S1024x1000 .f32) : Vec Ideal S128x8x1024 .f32 := fun j => wt x (128 * (j 1).val + (j 0).val) (j 2)

theorem turned_apply (x : Vec Ideal S1024x1000 .f32) (i : Fin 128) (c : Fin 8) (b : Fin 1024) :
    turned x (ix3 i c b) = wt x (128 * c.val + i.val) b := rfl

/-! ## Each chunk that is stored -/

/-- A slice of 128 positions from `o` on, turned. -/
theorem chunk (x : Vec Ideal S1024x1000 .f32) (o : ℕ) (ho : o + 128 ≤ 1000) (hs : S1024x1000.Slices ![0, o] S1024x128) (j : S128x1x1024.Idx) :
    shapeCast S128x1x1024 (transpose S128x1024 [1, 0] (extractStridedSlice S1024x128 ![0, o] x hs) transposes_S1024x128_p1_0_S128x1024)
      shapeCasts_S128x1024_S128x1x1024 j = wt x (o + (j 0).val) (j 2) := by
  have hj : (j 0).val < 128 := (j 0).isLt
  pointwise
  exact (wt_of_lt x (by omega) _).symm

/-- The last slice, of 104 positions, turned and filled with zeros. -/
theorem lastChunk (x : Vec Ideal S1024x1000 .f32) (j : S128x1x1024.Idx) : k0_pay10 x j = wt x (128 * 7 + (j 0).val) (j 2) := by
  have hj : (j 0).val < 128 := (j 0).isLt
  pointwise [k0_pay10]
  split
  · exact (wt_of_lt x (by omega) _).symm
  · exact (wt_of_ge x (by omega) _).symm

/-! ## The array after the eight stores -/

/-- A load of a whole staging buffer reads what the buffer holds. -/
theorem load_whole {S : Shape} {e : EltTy} (M : Memref sig .tc .vmem S e) (hM : M.IsWhole) {off : Fin S.rank → ℕ}
    (h0 : off = fun _ => 0) (inb : ∀ a, off a + S.size a ≤ S.size a) (x : S.Idx → Elt Ideal e) :
    View.readAt (Elt Ideal) M.view (Rect.unit off S.size inb).toLoadRect (hM.unread x) = x := by
  rw [View.readAt_eq_ld, hM.read_unread, View.ld_unit_zero h0]

/-- A chunk's rectangle places its entries in the turned block. -/
theorem turned_at (x : Vec Ideal S1024x1000 .f32) (c : ℕ) (inb : ∀ a, ![0, c, 0] a + S128x1x1024.size a ≤ S128x8x1024.size a)
    (j : S128x1x1024.Idx) :
    turned x ((Rect.unit (s := S128x8x1024) ![0, c, 0] S128x1x1024.size inb).emb j) = wt x (128 * c + (j 0).val) (j 2) := by
  have h1 : (j 1).val = 0 := by have : (j 1).val < 1 := (j 1).isLt; omega
  have e0 : ((Rect.unit (s := S128x8x1024) ![0, c, 0] S128x1x1024.size inb).emb j 0).val = (j 0).val := by
    show 0 + 1 * (j 0).val = _
    omega
  have e1 : ((Rect.unit (s := S128x8x1024) ![0, c, 0] S128x1x1024.size inb).emb j 1).val = c := by
    show c + 1 * (j 1).val = _
    omega
  have e2 : (Rect.unit (s := S128x8x1024) ![0, c, 0] S128x1x1024.size inb).emb j 2 = j 2 := by
    apply Fin.ext
    show 0 + 1 * (j 2).val = _
    omega
  unfold turned
  rw [e0, e1, e2]

/-- The first scratch array holds the turned block. -/
theorem canon_turned (c : Dev nD) (arg1 : Memref sig .tc .vmem S1024x1000 .f32) (harg1 : arg1.IsWhole) (x : Vec Ideal S1024x1000 .f32) :
    View.canon (kernelRun0_A.sl.HS0_8 (F := Ideal) c arg1 harg1 x) = turned x := by
  funext y
  apply View.canon_apply_of_pieces
  · unfold kernelRun0_A.sl.HS0_8 kernelRun0_A.sl.r_1 kernelRun0_A.sl.r
    rw [load_whole arg1 harg1 (by decide)]
    simp only [List.forall_mem_cons]
    refine ⟨fun j => ?_, fun j => ?_, fun j => ?_, fun j => ?_, fun j => ?_, fun j => ?_, fun j => ?_, fun j => ?_, by simp⟩
    · exact (lastChunk x j).trans (turned_at x 7 _ j).symm
    · exact (chunk x 768 (by decide) slices_S1024x1000_o0_768_S1024x128 j).trans (turned_at x 6 _ j).symm
    · exact (chunk x 640 (by decide) _ j).trans (turned_at x 5 _ j).symm
    · exact (chunk x 512 (by decide) _ j).trans (turned_at x 4 _ j).symm
    · exact (chunk x 384 (by decide) _ j).trans (turned_at x 3 _ j).symm
    · exact (chunk x 256 (by decide) _ j).trans (turned_at x 2 _ j).symm
    · exact (chunk x 128 (by decide) _ j).trans (turned_at x 1 _ j).symm
    · exact (chunk x 0 (by decide) _ j).trans (turned_at x 0 _ j).symm
  · have h0 : (y 0).val < 128 := (y 0).isLt
    have h1 : (y 1).val < 8 := (y 1).isLt
    have h2 : (y 2).val < 1024 := (y 2).isLt
    unfold kernelRun0_A.sl.HS0_8
    simp only [List.exists_mem_cons_iff, Rect.mem_set_unit, Fin.forall_fin_succ]
    simp
    omega
end Cert.KernelIdeal.Gen
-- ==== Proof.Running.lean ====
/-
  What one block's second scratch array holds: the running sums of the turned block along its 128 positions, stored one
  position after the other.
-/
module

public import proofs.«01_k».proof.Proof.Columns

@[expose] public section
set_option maxRecDepth 65536
noncomputable section
namespace Cert.KernelIdeal.Gen
open Idealize.ShloMosaic

/-- Each of the 128 slabs lies in the array. -/
theorem slab_inb (k : Fin 128) : ∀ a, ![k.val, 0, 0] a + S1x8x1024.size a ≤ S128x8x1024.size a := by
  intro a
  have := k.isLt
  fin_cases a
  · show k.val + 1 ≤ 128
    omega
  · exact Nat.le_refl 8
  · exact Nat.le_refl 1024

section Block
variable (c : Dev nD) (arg1 : Memref sig .tc .vmem S1024x1000 .f32) (harg1 : arg1.IsWhole)
  (arg6 arg7 : Memref sig .tc .vmem S128x8x1024 .f32) (x : Vec Ideal S1024x1000 .f32)

/-- The slab that is loaded from the turned block at position `k`. -/
def slab (k : Fin 128) : FVec Ideal S1x8x1024 .f32 :=
  arg6.view.readCov (kernelRun0_A.sl.HS0_8 (F := Ideal) c arg1 harg1 x)
    (Rect.unit (s := S128x8x1024) ![k.val, 0, 0] S1x8x1024.size (slab_inb k)).toLoadRect

/-- The running sum through position `k`. -/
def running : (k : ℕ) → k < 128 → FVec Ideal S1x8x1024 .f32
  | 0, h => slab c arg1 harg1 arg6 x ⟨0, h⟩
  | k + 1, h => addf (running k (Nat.lt_of_succ_lt h)) (slab c arg1 harg1 arg6 x ⟨k + 1, h⟩)

/-- The stores of the first `n` running sums, the last one first. -/
def stores : (n : ℕ) → n ≤ 128 → List (View.Piece (Elt Ideal) S128x8x1024 .f32)
  | 0, _ => []
  | n + 1, h => ⟨Rect.unit ![n, 0, 0] S1x8x1024.size (slab_inb ⟨n, h⟩),
      shapeCast S1x8x1024 (running c arg1 harg1 arg6 x n h) shapeCasts_S1x8x1024_S1x8x1024⟩ :: stores n (Nat.le_of_succ_le h)

/-- The program's last running sum is the one through position 127. -/
theorem sum_eq : kernelRun0_A.sl.r_27 (F := Ideal) c arg1 harg1 arg6 x = running c arg1 harg1 arg6 x 127 (by decide) := rfl

/-- The program's 128 stores are the stores of the running sums. -/
theorem stores_eq : kernelRun0_A.sl.HS1_128 (F := Ideal) c arg1 harg1 arg6 x = stores c arg1 harg1 arg6 x 128 (Nat.le_refl _) := rfl

/-- A loaded slab is a row of the turned block. -/
theorem slab_apply (k : Fin 128) (j : S1x8x1024.Idx) :
    slab c arg1 harg1 arg6 x k j = wt x (128 * (j 1).val + k.val) (j 2) := by
  have h0 : (j 0).val = 0 := by have : (j 0).val < 1 := (j 0).isLt; omega
  unfold slab
  rw [View.readCov_eq_canon', canon_turned]
  have e0 : ((Rect.unit (s := S128x8x1024) ![k.val, 0, 0] S1x8x1024.size (slab_inb k)).toLoadRect.idx j 0).val = k.val := by
    show k.val + 1 * (j 0).val = _
    omega
  have e1 : ((Rect.unit (s := S128x8x1024) ![k.val, 0, 0] S1x8x1024.size (slab_inb k)).toLoadRect.idx j 1).val = (j 1).val := by
    show 0 + 1 * (j 1).val = _
    omega
  have e2 : (Rect.unit (s := S128x8x1024) ![k.val, 0, 0] S1x8x1024.size (slab_inb k)).toLoadRect.idx j 2 = j 2 := by
    apply Fin.ext
    show 0 + 1 * (j 2).val = _
    omega
  show turned x ((Rect.unit (s := S128x8x1024) ![k.val, 0, 0] S1x8x1024.size (slab_inb k)).toLoadRect.idx j) = _
  unfold turned
  rw [e0, e1, e2]

/-- A running sum is the sum of the weights of its chunk through its position. -/
theorem running_apply (j : S1x8x1024.Idx) : ∀ (k : ℕ) (h : k < 128),
    running c arg1 harg1 arg6 x k h j = ∑ m ∈ Finset.range (k + 1), wt x (128 * (j 1).val + m) (j 2)
  | 0, h => by
    rw [Finset.sum_range_one]
    exact slab_apply c arg1 harg1 arg6 x ⟨0, h⟩ j
  | k + 1, h => by
    rw [Finset.sum_range_succ, ← running_apply j k (Nat.lt_of_succ_lt h), ← slab_apply c arg1 harg1 arg6 x ⟨k + 1, h⟩ j]
    rfl

end Block

/-- The running sums of a block's chunks: entry `(i, c, b)` is the sum over chunk `c` of row `b` through position `i`. -/
def sums (x : Vec Ideal S1024x1000 .f32) : Vec Ideal S128x8x1024 .f32 := fun j =>
  ∑ m ∈ Finset.range ((j 0).val + 1), wt x (128 * (j 1).val + m) (j 2)

section Block
variable (c : Dev nD) (arg1 : Memref sig .tc .vmem S1024x1000 .f32) (harg1 : arg1.IsWhole)
  (arg6 arg7 : Memref sig .tc .vmem S128x8x1024 .f32) (x : Vec Ideal S1024x1000 .f32)

/-- Every store writes the running sums of its position. -/
theorem stores_agree : ∀ (n : ℕ) (h : n ≤ 128), ∀ p ∈ stores c arg1 harg1 arg6 x n h,
    ∀ j : p.1.shape.Idx, p.2 j = sums x (p.1.emb j)
  | 0, _ => fun p hp => absurd hp List.not_mem_nil
  | n + 1, h => by
    intro p hp
    rcases List.mem_cons.mp hp with rfl | hp
    · intro j
      have h0 : (j 0).val = 0 := by have : (j 0).val < 1 := (j 0).isLt; omega
      have e0 : ((Rect.unit (s := S128x8x1024) ![n, 0, 0] S1x8x1024.size (slab_inb ⟨n, h⟩)).emb j 0).val = n := by
        show n + 1 * (j 0).val = _
        omega
      have e1 : ((Rect.unit (s := S128x8x1024) ![n, 0, 0] S1x8x1024.size (slab_inb ⟨n, h⟩)).emb j 1).val = (j 1).val := by
        show 0 + 1 * (j 1).val = _
        omega
      have e2 : (Rect.unit (s := S128x8x1024) ![n, 0, 0] S1x8x1024.size (slab_inb ⟨n, h⟩)).emb j 2 = j 2 := by
        apply Fin.ext
        show 0 + 1 * (j 2).val = _
        omega
      unfold sums
      rw [e0, e1, e2]
      show shapeCast S1x8x1024 _ _ j = _
      rw [shapeCast_self]
      exact running_apply c arg1 harg1 arg6 x j n h
    · exact stores_agree n (Nat.le_of_succ_le h) p hp

/-- The first `n` stores cover the positions below `n`. -/
theorem stores_cover (y : S128x8x1024.Idx) : ∀ (n : ℕ) (h : n ≤ 128), (y 0).val < n →
    ∃ p ∈ stores c arg1 harg1 arg6 x n h, y ∈ p.1.set
  | 0, _, hy => absurd hy (Nat.not_lt_zero _)
  | n + 1, h, hy => by
    rcases Nat.lt_succ_iff_lt_or_eq.mp hy with hy | hy
    · obtain ⟨p, hp, hm⟩ := stores_cover y n (Nat.le_of_succ_le h) hy
      exact ⟨p, List.mem_cons_of_mem _ hp, hm⟩
    · refine ⟨_, List.mem_cons_self, (Rect.mem_set_unit (inb := slab_inb ⟨n, h⟩)).mpr fun a => ?_⟩
      have h1 : (y 1).val < 8 := (y 1).isLt
      have h2 : (y 2).val < 1024 := (y 2).isLt
      fin_cases a
      · exact ⟨hy.ge, by show (y 0).val < n + 1; omega⟩
      · exact ⟨Nat.zero_le _, by show (y 1).val < 0 + 8; omega⟩
      · exact ⟨Nat.zero_le _, by show (y 2).val < 0 + 1024; omega⟩

/-- The second scratch array, loaded whole after the stores, holds the running sums. -/
theorem loaded_sums : kernelRun0_A.sl.v682 (F := Ideal) c arg1 harg1 arg6 arg7 x = sums x := by
  unfold kernelRun0_A.sl.v682
  rw [View.readCov_eq_canon', stores_eq]
  funext j
  rw [View.canon_apply_of_pieces (sums x) _ (stores_agree c arg1 harg1 arg6 x 128 (Nat.le_refl _)) _
    (stores_cover c arg1 harg1 arg6 x _ 128 (Nat.le_refl _) (Fin.isLt _))]
  exact congrFun (View.ld_unit_zero (by decide) _ (sums x)) j

/-- The first scratch array, loaded whole, holds the turned block. -/
theorem loaded_turned : kernelRun0_A.sl.v728 (F := Ideal) c arg1 harg1 arg6 x = turned x := by
  unfold kernelRun0_A.sl.v728
  rw [View.readCov_eq_canon', canon_turned]
  funext j
  exact congrFun (View.ld_unit_zero (by decide) _ (turned x)) j

/-- The last running sum, over a whole chunk. -/
theorem loaded_total (j : S1x8x1024.Idx) : kernelRun0_A.sl.r_27 (F := Ideal) c arg1 harg1 arg6 x j
    = ∑ m ∈ Finset.range 128, wt x (128 * (j 1).val + m) (j 2) := by
  rw [sum_eq]
  exact running_apply c arg1 harg1 arg6 x j 127 (by decide)

end Block
end Cert.KernelIdeal.Gen
-- ==== Proof.Pick.lean ====
/-
  The sampling rule, in plain numbers: the running sums of a row of weights, how many of them lie below a threshold, and the
  position that this number picks.
-/
module

public import Idealize.ShloMosaic.Lib.Pointwise
public import Idealize.ShloMosaic.PureOps.Ideal

@[expose] public section
noncomputable section
namespace Sampling

/-- The sum of the weights through position `g`. -/
def cdf (w : ℕ → EReal) (g : ℕ) : EReal := ∑ m ∈ Finset.range (g + 1), w m

open Classical in
/-- How many of the first 1000 running sums lie below the threshold. -/
def tally (w : ℕ → EReal) (t : EReal) : ℕ := ((Finset.range 1000).filter fun g => cdf w g < t).card

/-- The position that is picked: the number of running sums below the threshold, and the last position at most. -/
def pick (w : ℕ → EReal) (t : EReal) : ℕ := min (tally w t) 999

theorem tally_le (w : ℕ → EReal) (t : EReal) : tally w t ≤ 1000 := by
  have := Finset.card_filter_le (Finset.range 1000) fun g => cdf w g < t
  rw [Finset.card_range] at this
  unfold tally
  convert this

theorem pick_lt (w : ℕ → EReal) (t : EReal) : pick w t < 1000 := by
  unfold pick
  omega

/-- Only the first 1000 weights count. -/
theorem pick_congr {w w' : ℕ → EReal} {t t' : EReal} (h : ∀ g < 1000, w g = w' g) (ht : t = t') : pick w t = pick w' t' := by
  subst ht
  unfold pick tally
  congr 2
  apply Finset.filter_congr
  intro g hg
  have e : cdf w g = cdf w' g := Finset.sum_congr rfl fun m hm => h m (by
    have := Finset.mem_range.mp hm; have := Finset.mem_range.mp hg; omega)
  rw [e]

/-- The sum of the first `c` chunks of 128 weights, chunk by chunk. -/
theorem chunks (w : ℕ → EReal) (c : ℕ) :
    ∑ k ∈ Finset.range c, ∑ m ∈ Finset.range 128, w (128 * k + m) = ∑ m ∈ Finset.range (128 * c), w m := by
  induction c with
  | zero => simp
  | succ c ih => rw [Finset.sum_range_succ, ih, Nat.mul_succ, Finset.sum_range_add]

/-- A running sum is the sum of its own chunk so far and of the chunks before it. -/
theorem cdf_chunks (w : ℕ → EReal) (c i : ℕ) :
    cdf w (128 * c + i) = ∑ m ∈ Finset.range (i + 1), w (128 * c + m) + ∑ k ∈ Finset.range c, ∑ m ∈ Finset.range 128, w (128 * k + m) := by
  rw [chunks, add_comm (∑ m ∈ Finset.range (i + 1), _), ← Finset.sum_range_add]
  rfl

/-- The total is the sum of the eight chunks, when the weights past the last position are zero. -/
theorem total_chunks (w : ℕ → EReal) (hw : ∀ g, 1000 ≤ g → w g = 0) :
    cdf w 999 = ∑ k ∈ Finset.range 8, ∑ m ∈ Finset.range 128, w (128 * k + m) := by
  rw [chunks, show 128 * 8 = 1000 + 24 from rfl, Finset.sum_range_add,
    Finset.sum_eq_zero (s := Finset.range 24) fun m _ => hw _ (Nat.le_add_right _ _), add_zero]
  rfl

/-- A sum over 1024 positions in which the entry at `p` alone counts. -/
theorem sum_one (f : ℕ → EReal) (n p : ℕ) (hp : p < n) (h : ∀ g < n, g ≠ p → f g = 0) :
    ∑ g ∈ Finset.range n, f g = f p :=
  Finset.sum_eq_single p (fun g hg hne => h g (Finset.mem_range.mp hg) hne) fun hn => absurd (Finset.mem_range.mpr hp) hn

end Sampling
-- ==== Proof.CumSum.lean ====
/-
  The cumulative sum along the rows, as the host's windowed sum computes it, read at an index.
-/
module

public import proofs.«01_k».proof.Proof.Pick
public import Idealize.ShloMosaic.Lib.Pointwise

@[expose] public section
noncomputable section
namespace Sampling
open Idealize.ShloMosaic

/-- A row of a table of weights, zero past its last column. -/
def row {n : ℕ} (x : (⟨2, ![n, 1000]⟩ : Shape).Idx → EReal) (b : Fin n) (g : ℕ) : EReal :=
  if h : g < 1000 then x (ix2 b ⟨g, h⟩) else 0

theorem row_of_lt {n : ℕ} (x : (⟨2, ![n, 1000]⟩ : Shape).Idx → EReal) (b : Fin n) {g : ℕ} (h : g < 1000) : row x b g = x (ix2 b ⟨g, h⟩) :=
  dif_pos h

theorem row_of_ge {n : ℕ} (x : (⟨2, ![n, 1000]⟩ : Shape).Idx → EReal) (b : Fin n) {g : ℕ} (h : 1000 ≤ g) : row x b g = 0 :=
  dif_neg (by omega)

/-- Adding up a list from zero is the sum over its positions. -/
theorem foldl_sum {N : ℕ} (F : Fin N → EReal) : (List.finRange N).foldl (fun r n => r + F n) 0 = ∑ n, F n := by
  rw [Fin.sum_univ_def, List.sum_eq_foldl, List.foldl_map]

/-- A window of 1000 that ends at position `q` holds the weights through `q`; what lies before the first is zero. -/
theorem window_sum (w : ℕ → EReal) (q : ℕ) (hq : q < 1000) :
    ∑ n ∈ Finset.range 1000, (if 999 ≤ q + n then w (q + n - 999) else 0) = cdf w q := by
  rw [show 1000 = (999 - q) + (q + 1) by omega, Finset.sum_range_add,
    Finset.sum_eq_zero (s := Finset.range (999 - q)) fun n hn => if_neg (by have := Finset.mem_range.mp hn; omega), zero_add]
  refine Finset.sum_congr rfl fun n _ => ?_
  rw [if_pos (by omega), show q + (999 - q + n) - 999 = n by omega]

/-- The cumulative sum along the rows, at an index: the sum of the row through that column. -/
theorem cumsum_apply {n : ℕ} (x : (⟨2, ![n, 1000]⟩ : Shape).Idx → EReal)
    (h : (⟨2, ![n, 1000]⟩ : Shape).ReduceWindows ![1, 1000] ![1, 1] ![0, 999] ![0, 0] ⟨2, ![n, 1000]⟩) (z : EReal) (hz : z = 0)
    (b : Fin n) (q : Fin 1000) : Ideal.hostReduceWindowAdd ![1, 1000] ![1, 1] ![0, 999] ![0, 0] h x z (ix2 b q) = cdf (row x b) q.val := by
  subst hz
  unfold Ideal.hostReduceWindowAdd Host.reduceWindow
  dsimp only
  rw [foldl_sum, ← window_sum _ _ q.isLt]
  rw [← Fin.sum_univ_eq_sum_range (fun k => if 999 ≤ q.val + k then row x b (q.val + k - 999) else 0) 1000]
  refine (Finset.sum_congr rfl fun k _ => ?_).trans ((Equiv.sum_comp (Shape.rowMajor ⟨2, ![1, 1000]⟩).symm
    (fun i : (⟨2, ![1, 1000]⟩ : Shape).Idx => if 999 ≤ q.val + (i 1).val then row x b (q.val + (i 1).val - 999) else 0)).trans ?_)
  · let i : (⟨2, ![1, 1000]⟩ : Shape).Idx := (Shape.rowMajor ⟨2, ![1, 1000]⟩).symm k
    show _ = if 999 ≤ q.val + (i 1).val then row x b (q.val + (i 1).val - 999) else 0
    have i0 : (i 0).val = 0 := by have : (i 0).val < 1 := (i 0).isLt; omega
    have i1 : (i 1).val < 1000 := (i 1).isLt
    have q1 := q.isLt
    by_cases hc : 999 ≤ q.val + (i 1).val
    · rw [if_pos hc, row_of_lt _ _ (by omega), dif_pos]
      · congr 1
        funext a
        match a with
        | ⟨0, _⟩ => refine Fin.ext ?_; show b.val * 1 + (i 0).val - 0 = b.val; omega
        | ⟨1, _⟩ => refine Fin.ext ?_; show q.val * 1 + (i 1).val - 999 = q.val + (i 1).val - 999; omega
      · intro a
        match a with
        | ⟨0, _⟩ => show 0 ≤ b.val * 1 + (i 0).val ∧ b.val * 1 + (i 0).val - 0 < n; have := b.isLt; omega
        | ⟨1, _⟩ => show 999 ≤ q.val * 1 + (i 1).val ∧ q.val * 1 + (i 1).val - 999 < 1000; omega
    · rw [if_neg hc, dif_neg]
      intro hin
      have : 999 ≤ q.val * 1 + (i 1).val := (hin 1).1
      omega
  · refine Finset.sum_nbij' (fun i => (i 1 : Fin 1000)) (fun k => ix2 (0 : Fin 1) k) (fun _ _ => Finset.mem_univ _)
      (fun _ _ => Finset.mem_univ _) ?_ (fun _ _ => rfl) (fun _ _ => rfl)
    intro i _
    funext a
    match a with
    | ⟨0, _⟩ => exact Subsingleton.elim (α := Fin 1) _ _
    | ⟨1, _⟩ => rfl

end Sampling
-- ==== Proof.Words.lean ====
/-
  Small numbers as 32-bit words: a count of truth values, the bounds 0 and 999, and the wrap of a negative index.
-/
module

public import proofs.«01_k».proof.Proof.Pick
public import Idealize.ShloMosaic.Lib.Tactic.WordOmega
public import Idealize.ShloMosaic.Lib.IndicatorCount

@[expose] public section
noncomputable section
namespace Sampling
open Idealize.ShloMosaic

/-- A number below 2000 reads back from its word, as a signed number. -/
theorem toInt_small {n : ℕ} (h : n < 2000) : (BitVec.ofNat 32 n).toInt = n := by
  have e : (BitVec.ofNat 32 n).toNat = n := by rw [BitVec.toNat_ofNat]; omega
  rw [BitVec.toInt_eq_toNat_of_lt (by rw [e]; omega), e]

theorem min_word {n : ℕ} (h : n ≤ 1000) : IntOp.minsi (BitVec.ofNat 32 n) 999#32 = BitVec.ofNat 32 (min n 999) := by
  have e : ((BitVec.ofNat 32 n).slt 999#32 = true) ↔ n < 999 := by
    rw [BitVec.slt_iff_toInt_lt, toInt_small (n := n) (by omega)]
    show (n : ℤ) < 999 ↔ _
    omega
  unfold IntOp.minsi
  by_cases hn : n < 999
  · rw [if_pos (e.mpr hn), min_eq_left (by omega)]
  · rw [if_neg fun hh => hn (e.mp hh), min_eq_right (by omega)]

theorem clip_word {n : ℕ} (h : n ≤ 1000) : IntOp.minsi 999#32 (IntOp.maxsi 0#32 (BitVec.ofNat 32 n)) = BitVec.ofNat 32 (min n 999) := by
  have e0 : ¬ ((BitVec.ofNat 32 n).slt 0#32 = true) := by
    rw [BitVec.slt_iff_toInt_lt, toInt_small (n := n) (by omega)]
    show ¬ (n : ℤ) < 0
    omega
  have e : ((999#32).slt (BitVec.ofNat 32 n) = true) ↔ 999 < n := by
    rw [BitVec.slt_iff_toInt_lt, toInt_small (n := n) (by omega)]
    show 999 < (n : ℤ) ↔ _
    omega
  have m : IntOp.maxsi 0#32 (BitVec.ofNat 32 n) = BitVec.ofNat 32 n := by
    unfold IntOp.maxsi
    by_cases hz : (0#32).slt (BitVec.ofNat 32 n) = true
    · first | rw [if_pos hz] | rw [if_neg e0]
    · have : n = 0 := by
        by_contra hne
        apply hz
        rw [BitVec.slt_iff_toInt_lt, toInt_small (n := n) (by omega)]
        show (0 : ℤ) < n
        omega
      subst this
      rfl
  rw [m]
  unfold IntOp.minsi
  by_cases hn : 999 < n
  · rw [if_pos (e.mpr hn), min_eq_right (by omega)]
  · rw [if_neg fun hh => hn (e.mp hh), min_eq_left (by omega)]

/-- jnp's wrap of an index: a negative one counts from the end. -/
def wrap (w : BitVec 32) : BitVec 32 := Scalar.select (IntOp.cmpi .slt w 0#32) (IntOp.addi w 1000#32) w

theorem wrap_word {n : ℕ} (h : n < 1000) : wrap (BitVec.ofNat 32 n) = BitVec.ofNat 32 n := by
  have e0 : (BitVec.ofNat 32 n).slt 0#32 = false := by
    rw [Bool.eq_false_iff, ne_eq, BitVec.slt_iff_toInt_lt, toInt_small (n := n) (by omega)]
    show ¬ (n : ℤ) < 0
    omega
  unfold wrap IntOp.cmpi Scalar.select
  dsimp only
  rw [e0]
  rfl

theorem in_range_word {n : ℕ} (h : n < 1000) :
    IntOp.andi (IntOp.cmpi .sge (BitVec.ofNat 32 n) 0#32) (IntOp.cmpi .sle (BitVec.ofNat 32 n) 999#32) = 1#1 := by
  have e0 : (0#32).sle (BitVec.ofNat 32 n) = true := by
    rw [BitVec.sle_iff_toInt_le, toInt_small (n := n) (by omega)]
    show (0 : ℤ) ≤ n
    omega
  have e1 : (BitVec.ofNat 32 n).sle 999#32 = true := by
    rw [BitVec.sle_iff_toInt_le, toInt_small (n := n) (by omega)]
    show (n : ℤ) ≤ 999
    omega
  unfold IntOp.cmpi
  dsimp only
  rw [e0, e1]
  rfl

/-- Under the mask that keeps the indices in range, an index in range keeps its entry. -/
theorem masked {ι α : Type} (S : Finset ι) (z : BitVec 32) {n : ℕ} (hz : z = BitVec.ofNat 32 n) (h : n < 1000) (a c : α) :
    Scalar.select (S.fold IntOp.andi (1#1) fun _ => IntOp.andi (IntOp.cmpi .sge (wrap z) 0#32) (IntOp.cmpi .sle (wrap z) 999#32)) a c = a := by
  subst hz
  rw [wrap_word h, in_range_word h]
  have e : S.fold IntOp.andi (1#1) (fun _ => 1#1) = 1#1 := by
    classical
    induction S using Finset.induction_on with
    | empty => rfl
    | insert a S ha ih => rw [Finset.fold_insert ha, ih]; rfl
  rw [e]
  rfl

/-- The word of a number in range, wrapped, reads back as that number. -/
theorem wrap_read (z : BitVec 32) {n : ℕ} (hz : z = BitVec.ofNat 32 n) (h : n < 1000) : (wrap z).toInt.toNat = n := by
  rw [hz, wrap_word h, toInt_small (by omega)]
  rfl

/-- The bit of a proposition. -/
theorem bit_iff (P : Prop) [Decidable P] : BitVec.ofBool (decide P) = 1#1 ↔ P := by
  by_cases h : P <;> simp [h]

/-- Two bits that hold together. -/
theorem both_bits : ∀ a b : BitVec 1, IntOp.andi a b = 1#1 ↔ a = 1#1 ∧ b = 1#1 := by decide

/-- The word of a position, put together from its chunk and its place in the chunk. -/
theorem place_word (i c : ℕ) : IntOp.addi (BitVec.ofNat 32 i) (IntOp.muli 128#32 (BitVec.ofNat 32 c)) = BitVec.ofNat 32 (128 * c + i) := by
  show BitVec.ofNat 32 i + BitVec.ofNat 32 128 * BitVec.ofNat 32 c = _
  rw [← BitVec.ofNat_mul, ← BitVec.ofNat_add, Nat.add_comm]

/-- The same, with the place last. -/
theorem place_word' (i c : ℕ) : IntOp.addi (IntOp.muli 128#32 (BitVec.ofNat 32 c)) (BitVec.ofNat 32 i) = BitVec.ofNat 32 (128 * c + i) := by
  show BitVec.ofNat 32 128 * BitVec.ofNat 32 c + BitVec.ofNat 32 i = _
  rw [← BitVec.ofNat_mul, ← BitVec.ofNat_add]

/-- The bit that a position is one of the first 1000. -/
theorem valid_bit {g : ℕ} (h : g < 2000) : IntOp.cmpi .slt (BitVec.ofNat 32 g) 1000#32 = 1#1 ↔ g < 1000 := by
  have e : ((BitVec.ofNat 32 g).slt 1000#32 = true) ↔ g < 1000 := by
    rw [BitVec.slt_iff_toInt_lt, toInt_small (n := g) h]
    show (g : ℤ) < 1000 ↔ _
    omega
  unfold IntOp.cmpi
  dsimp only
  rw [← e]
  cases (BitVec.ofNat 32 g).slt 1000#32 <;> simp

/-- A bit, read as a number: one where two positions agree, zero where they differ. -/
theorem same_bit (n : ℕ) :
    (FloatOps.sitofp .f32 (BitVec.setWidth 32 (IntOp.cmpi .eq (BitVec.ofNat 32 n) (BitVec.ofNat 32 n))) : Ideal .f32) = (1 : EReal) := by
  have e : BitVec.setWidth 32 (IntOp.cmpi .eq (BitVec.ofNat 32 n) (BitVec.ofNat 32 n)) = 1#32 := by
    unfold IntOp.cmpi
    simp
  rw [e]
  show (((1#32).toInt : ℝ) : EReal) = 1
  simp

theorem other_bit {n k : ℕ} (hn : n < 2000) (hk : k < 2000) (h : n ≠ k) :
    (FloatOps.sitofp .f32 (BitVec.setWidth 32 (IntOp.cmpi .eq (BitVec.ofNat 32 n) (BitVec.ofNat 32 k))) : Ideal .f32) = (0 : EReal) := by
  have ne : BitVec.ofNat 32 n ≠ BitVec.ofNat 32 k := fun hh => h (by
    have := congrArg BitVec.toNat hh
    rw [BitVec.toNat_ofNat, BitVec.toNat_ofNat] at this
    omega)
  have e : BitVec.setWidth 32 (IntOp.cmpi .eq (BitVec.ofNat 32 n) (BitVec.ofNat 32 k)) = 0#32 := by
    unfold IntOp.cmpi
    dsimp only
    rw [beq_false_of_ne ne]
    rfl
  rw [e]
  show (((0#32).toInt : ℝ) : EReal) = 0
  simp

/-- The number of running sums below the threshold, counted in words. -/
theorem count_word {ι : Type} (S : Finset ι) (at_ : ι → ℕ) (hinj : ∀ x ∈ S, ∀ y ∈ S, at_ x = at_ y → x = y) (b : ι → BitVec 1)
    (w : ℕ → EReal) (t : EReal) (hb : ∀ x ∈ S, b x = 1#1 ↔ at_ x < 1000 ∧ cdf w (at_ x) < t)
    (hS : ∀ g < 1000, ∃ x ∈ S, at_ x = g) :
    S.fold IntOp.addi (0#32) (fun x => (b x).setWidth 32) = BitVec.ofNat 32 (tally w t) := by
  classical
  rw [IndicatorCount.fold_addi_setWidth_eq_card]
  congr 1
  unfold tally
  refine Finset.card_bij (fun x _ => at_ x) ?_ ?_ ?_
  · intro x hx
    obtain ⟨hx, h1⟩ := Finset.mem_filter.mp hx
    have := (hb x hx).mp h1
    exact Finset.mem_filter.mpr ⟨Finset.mem_range.mpr this.1, this.2⟩
  · intro x hx y hy h
    exact hinj x (Finset.mem_filter.mp hx).1 y (Finset.mem_filter.mp hy).1 h
  · intro g hg
    obtain ⟨hg, h1⟩ := Finset.mem_filter.mp hg
    have hg' := Finset.mem_range.mp hg
    obtain ⟨x, hx, rfl⟩ := hS g hg'
    exact ⟨x, Finset.mem_filter.mpr ⟨hx, (hb x hx).mpr ⟨hg', h1⟩⟩, rfl⟩

end Sampling
-- ==== Proof.Block.lean ====
/-
  What one block computes: the position that each of its rows picks, the weight there, and the row of `tanh` there.
-/
module

public import proofs.«01_k».proof.Proof.Running
public import proofs.«01_k».proof.Proof.CumSum
public import proofs.«01_k».proof.Proof.Words

@[expose] public section
set_option maxRecDepth 65536
noncomputable section
namespace Cert.KernelIdeal.Gen
open Idealize.ShloMosaic

/-- The position that row `b` of a block picks, from the block's weights and its row of draws. -/
def place (x : Vec Ideal S1024x1000 .f32) (u : Vec Ideal S1x1024 .f32) (b : Fin 1024) : Fin 1000 :=
  ⟨Sampling.pick (Sampling.row x b) (u (ix2 (0 : Fin 1) b) * Sampling.cdf (Sampling.row x b) 999), Sampling.pick_lt _ _⟩

theorem drop_last (i : S128x8x1024.Idx) : reduces_S128x8x1024_S1024.drop i = ix1 (i 2) := by
  funext a
  match a with
  | ⟨0, _⟩ => rfl

theorem last_of_mem {i : S128x8x1024.Idx} {b : Fin 1024}
    (h : i ∈ Finset.univ.filter fun i => reduces_S128x8x1024_S1024.drop i = ix1 b) : i 2 = b := by
  have := (Finset.mem_filter.mp h).2
  rw [drop_last] at this
  exact congrFun this 0

theorem mem_of_last (i : Fin 128) (c : Fin 8) (b : Fin 1024) :
    ix3 i c b ∈ Finset.univ.filter fun i => reduces_S128x8x1024_S1024.drop i = ix1 b :=
  Finset.mem_filter.mpr ⟨Finset.mem_univ _, drop_last _⟩

set_option maxHeartbeats 4000000 in
/-- A row's position, as the block computes it in words, from the running sums and the chunk totals. -/
theorem index_at (tot : FVec Ideal S1x8x1024 .f32) (x : Vec Ideal S1024x1000 .f32) (u : Vec Ideal S1x1024 .f32)
    (hT : ∀ (k : Fin 8) (b : Fin 1024), tot (ix3 (0 : Fin 1) k b) = ∑ m ∈ Finset.range 128, Sampling.row x b (128 * k.val + m))
    (j : S1x1x1024.Idx) : k0_pay268 tot (sums x) k0_pay266 u j = BitVec.ofNat 32 (place x u (j 2)).val := by
  pointwise [k0_pay268, k0_pay266, k0_pay267]
  refine Eq.trans ?_ (Sampling.min_word (Sampling.tally_le _ _))
  refine congrArg (fun z => IntOp.minsi z 999#32) ?_
  refine Sampling.count_word _ (fun i : S128x8x1024.Idx => 128 * (i 1).val + (i 0).val) ?_ _ _ _ ?_ ?_
  · intro i hi k hk h
    have h2 := (last_of_mem hi).trans (last_of_mem hk).symm
    have hi0 : (i 0).val < 128 := (i 0).isLt
    have hk0 : (k 0).val < 128 := (k 0).isLt
    have h : 128 * (i 1).val + (i 0).val = 128 * (k 1).val + (k 0).val := h
    funext a
    match a with
    | ⟨0, _⟩ => exact Fin.ext (show (i 0).val = (k 0).val by omega)
    | ⟨1, _⟩ => exact Fin.ext (show (i 1).val = (k 1).val by omega)
    | ⟨2, _⟩ => exact h2
  · intro k hk
    have hb := last_of_mem hk
    have k0 : (k 0).val < 128 := (k 0).isLt
    have k1 : (k 1).val < 8 := (k 1).isLt
    have hv : IntOp.cmpi .slt (IntOp.addi (BitVec.ofNat 32 (k 0).val) (IntOp.muli 128#32 (BitVec.ofNat 32 (k 1).val))) 1000#32 = 1#1
        ↔ 128 * (k 1).val + (k 0).val < 1000 := by
      rw [Sampling.place_word]
      exact Sampling.valid_bit (by omega)
    refine (Sampling.both_bits _ _).trans ?_
    refine Iff.trans ?_ and_comm
    refine and_congr ((Sampling.bit_iff _).trans (Iff.of_eq ?_)) hv
    have hT' : ∀ q : Fin 8, tot (ix3 (0 : Fin 1) q (k 2)) = ∑ m ∈ Finset.range 128, Sampling.row x (j 2) (128 * q.val + m) :=
      fun q => (hT q (k 2)).trans (congrArg (fun b => ∑ m ∈ Finset.range 128, Sampling.row x b (128 * q.val + m)) hb)
    have hS : sums x k = ∑ m ∈ Finset.range ((k 0).val + 1), Sampling.row x (j 2) (128 * (k 1).val + m) :=
      congrArg (fun b => ∑ m ∈ Finset.range ((k 0).val + 1), Sampling.row x b (128 * (k 1).val + m)) hb
    have hu : u (ix2 (0 : Fin 1) (k 2)) = u (ix2 (0 : Fin 1) (j 2)) := congrArg (fun b => u (ix2 (0 : Fin 1) b)) hb
    refine congrArg₂ (fun a c : EReal => a < c) ?_ ?_
    · refine Eq.trans (congrArg₂ (fun a c : EReal => a + c) hS ?_) (Sampling.cdf_chunks _ (k 1).val (k 0).val).symm
      rcases (by omega : (k 1).val = 0 ∨ (k 1).val = 1 ∨ (k 1).val = 2 ∨ (k 1).val = 3 ∨ (k 1).val = 4 ∨ (k 1).val = 5 ∨ (k 1).val = 6 ∨ (k 1).val = 7)
        with h | h | h | h | h | h | h | h <;> simp [h, hT', Finset.sum_range_succ]
    · refine congrArg₂ (fun a c : EReal => a * c) hu ?_
      refine Eq.trans ?_ (Sampling.total_chunks (Sampling.row x (j 2)) fun g hg => Sampling.row_of_ge x _ hg).symm
      simp [hT', Finset.sum_range_succ]
  · intro g hg
    exact ⟨ix3 ⟨g % 128, by omega⟩ ⟨g / 128, by omega⟩ (j 2), mem_of_last _ _ _, show 128 * (g / 128) + g % 128 = g by omega⟩

/-- One entry of the masked block: the entry of the block where the position is the one that the row picks, and zero elsewhere. -/
theorem masked_entry (w : IVec S1x1x1024 32) (s : Vec Ideal S128x8x1024 .f32) (i : S128x8x1024.Idx) :
    mulf (F := Ideal) (sitofp FTy.f32 (extui 32 (cmpi CmpIPredicate.eq
      (broadcastTo S128x8x1024 (addi (iota Kind.tc S128x8x1 32 [0] iota_S128x8x1_d0_w32)
        (muli (broadcast S128x8x1 128#32) (iota Kind.tc S128x8x1 32 [1] iota_S128x8x1_d1_w32))) broadcasts_S128x8x1_S128x8x1024)
      (broadcastTo S128x8x1024 w broadcasts_S1x1x1024_S128x8x1024)) natLt_1_32)) s i
    = ((FloatOps.sitofp .f32 (BitVec.setWidth 32 (IntOp.cmpi .eq
        (IntOp.addi (BitVec.ofNat 32 (i 0).val) (IntOp.muli 128#32 (BitVec.ofNat 32 (i 1).val))) (w (ix3 (0 : Fin 1) (0 : Fin 1) (i 2))))) : Ideal .f32) : EReal) * s i := by
  pointwise

/-- The sum of the masked block over its positions is the entry at the position that the row picks. -/
theorem masked_sum (w : IVec S1x1x1024 32) (x : Vec Ideal S1024x1000 .f32) (b : Fin 1024) (p : Fin 1000)
    (hw : w (ix3 (0 : Fin 1) (0 : Fin 1) b) = BitVec.ofNat 32 p.val) :
    Ideal.reduceAdd reduces_S128x8x1024_S1024 (mulf (F := Ideal) (sitofp FTy.f32 (extui 32 (cmpi CmpIPredicate.eq
      (broadcastTo S128x8x1024 (addi (iota Kind.tc S128x8x1 32 [0] iota_S128x8x1_d0_w32)
        (muli (broadcast S128x8x1 128#32) (iota Kind.tc S128x8x1 32 [1] iota_S128x8x1_d1_w32))) broadcasts_S128x8x1_S128x8x1024)
      (broadcastTo S128x8x1024 w broadcasts_S1x1x1024_S128x8x1024)) natLt_1_32)) (turned x)) (ix1 b) = x (ix2 b p) := by
  have hp := p.isLt
  unfold Ideal.reduceAdd
  refine (Finset.sum_eq_single (ix3 (⟨p.val % 128, by omega⟩ : Fin 128) (⟨p.val / 128, by omega⟩ : Fin 8) b) ?_ ?_).trans ?_
  · intro i hi hne
    have hb := last_of_mem hi
    have i0 : (i 0).val < 128 := (i 0).isLt
    have i1 : (i 1).val < 8 := (i 1).isLt
    have ne : 128 * (i 1).val + (i 0).val ≠ p.val := fun h => hne (by
      funext a
      match a with
      | ⟨0, _⟩ => exact Fin.ext (show (i 0).val = p.val % 128 by omega)
      | ⟨1, _⟩ => exact Fin.ext (show (i 1).val = p.val / 128 by omega)
      | ⟨2, _⟩ => exact hb)
    have hw' : w (ix3 (0 : Fin 1) (0 : Fin 1) (i 2)) = BitVec.ofNat 32 p.val := (congrArg (fun b => w (ix3 (0 : Fin 1) (0 : Fin 1) b)) hb).trans hw
    rw [masked_entry, hw', Sampling.place_word, Sampling.other_bit (by omega) (by omega) ne, zero_mul]
  · intro hn
    exact absurd (mem_of_last _ _ _) hn
  · rw [masked_entry]
    refine (congrArg (fun z : EReal => z * turned x _) ?_).trans ((one_mul _).trans ?_)
    · refine Eq.trans ?_ (Sampling.same_bit p.val)
      refine congrArg (fun z => (FloatOps.sitofp .f32 (BitVec.setWidth 32 z) : Ideal .f32)) ?_
      refine congrArg₂ (fun a c => IntOp.cmpi .eq a c) ?_ hw
      refine (Sampling.place_word _ _).trans (congrArg (BitVec.ofNat 32) ?_)
      show 128 * (p.val / 128) + p.val % 128 = p.val
      omega
    · show wt x (128 * (p.val / 128) + p.val % 128) b = _
      rw [show 128 * (p.val / 128) + p.val % 128 = p.val by omega]
      exact wt_of_lt x hp b

/-- A row's weight at the position that it picks. -/
theorem weight_at (tot : FVec Ideal S1x8x1024 .f32) (x : Vec Ideal S1024x1000 .f32) (u : Vec Ideal S1x1024 .f32)
    (hT : ∀ (k : Fin 8) (b : Fin 1024), tot (ix3 (0 : Fin 1) k b) = ∑ m ∈ Finset.range 128, Sampling.row x b (128 * k.val + m))
    (j : S1x1024.Idx) : k0_pay269 tot (sums x) k0_pay266 u (turned x) j = x (ix2 (j 1) (place x u (j 1))) := by
  pointwise [k0_pay269, k0_pay267]
  exact masked_sum _ x (j 1) _ (index_at tot x u hT _)

/-- The product of the table of indicators with a table takes the row at the position that is picked. -/
theorem row_at (ind : IVec S1x1x1024 32) (kh : Vec Ideal S1000x128 .f32) (j : S1024x128.Idx) (p : Fin 1000)
    (hw : ind (ix3 (0 : Fin 1) (0 : Fin 1) (j 0)) = BitVec.ofNat 32 p.val) : k0_pay1 ind kh j = Ideal.tanh (kh (ix2 p (j 1))) := by
  have hp := p.isLt
  pointwise [k0_pay1]
  have z : ∀ y : EReal, y * 0 = 0 := fun y => mul_zero y
  simp only [z, Finset.sum_const_zero, add_zero, Sampling.place_word']
  refine (Finset.sum_eq_single p ?_ fun h => absurd (Finset.mem_univ p) h).trans ?_
  · intro i _ hne
    have := i.isLt
    refine (congrArg (fun z : EReal => z * _) ?_).trans (zero_mul _)
    refine Eq.trans ?_ (Sampling.other_bit (n := i.val) (k := p.val) (by omega) (by omega) fun h => hne (Fin.ext h))
    refine congrArg (fun z => (FloatOps.sitofp .f32 (BitVec.setWidth 32 z) : Ideal .f32)) ?_
    exact congrArg₂ (fun a c => IntOp.cmpi .eq a c) (congrArg (BitVec.ofNat 32) (show 128 * (i.val / 128) + i.val % 128 = i.val by omega)) hw
  · refine (congrArg (fun z : EReal => z * _) ?_).trans (one_mul _)
    refine Eq.trans ?_ (Sampling.same_bit p.val)
    refine congrArg (fun z => (FloatOps.sitofp .f32 (BitVec.setWidth 32 z) : Ideal .f32)) ?_
    exact congrArg₂ (fun a c => IntOp.cmpi .eq a c) (congrArg (BitVec.ofNat 32) (show 128 * (p.val / 128) + p.val % 128 = p.val by omega)) hw

end Cert.KernelIdeal.Gen
-- ==== Proof.Outs.lean ====
/-
  What one point of the grid leaves in its two output blocks, from the three blocks that it reads.
-/
module

public import proofs.«01_k».proof.Proof.Block

@[expose] public section
set_option maxRecDepth 65536
noncomputable section
namespace Cert.KernelIdeal.Gen
open Idealize.ShloMosaic

section Point
variable (c : Dev nD) (i : grid0.Coords) (arg1 : Memref sig .tc .vmem S1024x1000 .f32) (harg1 : arg1.IsWhole)
  (arg2 : Memref sig .tc .vmem S1x1024 .f32) (harg2 : arg2.IsWhole) (arg3 : Memref sig .tc .vmem S1000x128 .f32) (harg3 : arg3.IsWhole)
  (arg4 : Memref sig .tc .vmem S1024x128 .f32) (harg4 : arg4.IsWhole) (arg5 : Memref sig .tc .vmem S1x1024 .f32) (harg5 : arg5.IsWhole)
  (arg6 : Memref sig .tc .vmem S128x8x1024 .f32) (harg6 : arg6.IsWhole) (arg7 : Memref sig .tc .vmem S128x8x1024 .f32) (harg7 : arg7.IsWhole)
  (x : Vec Ideal S1024x1000 .f32) (u : Vec Ideal S1x1024 .f32) (kh : Vec Ideal S1000x128 .f32)

/-- The chunk totals, as the block's last running sum holds them. -/
theorem totals (k : Fin 8) (b : Fin 1024) : kernelRun0_A.sl.r_27 (F := Ideal) c arg1 harg1 arg6 x (ix3 (0 : Fin 1) k b)
    = ∑ m ∈ Finset.range 128, Sampling.row x b (128 * k.val + m) :=
  loaded_total c arg1 harg1 arg6 x _

/-- The second output block: each row's weight at the position that it picks. -/
theorem out_weight (j : S1x1024.Idx) :
    out0_A_4 c i arg1 harg1 arg2 harg2 arg3 harg3 arg4 harg4 arg5 harg5 arg6 harg6 arg7 harg7 x u kh j = x (ix2 (j 1) (place x u (j 1))) := by
  unfold out0_A_4
  rw [View.read_writes_junk_eq_canon]
  refine (congrFun (View.canon_unit_zero (Val := Elt Ideal) (e := .f32) (off := ![0, 0]) (by decide) _ (kernelRun0_A.sl.r_29 (F := Ideal) c arg1 harg1 arg2 harg2 arg6 arg7 x u)) j).trans ?_
  unfold kernelRun0_A.sl.r_29
  rw [loaded_sums, loaded_turned]
  refine (congrFun (congrArg (fun u => k0_pay269 _ (sums x) k0_pay266 u (turned x)) (load_whole arg2 harg2 (by decide) _ u)) j).trans ?_
  exact weight_at _ x u (totals c arg1 harg1 arg6 x) j

/-- The first output block: the row of `tanh` at the position that each row picks. -/
theorem out_action (j : S1024x128.Idx) :
    out0_A_3 c i arg1 harg1 arg2 harg2 arg3 harg3 arg4 harg4 arg5 harg5 arg6 harg6 arg7 harg7 x u kh j
      = Ideal.tanh (kh (ix2 (place x u (j 0)) (j 1))) := by
  unfold out0_A_3
  rw [View.read_writes_junk_eq_canon]
  refine (congrFun (View.canon_unit_zero (Val := Elt Ideal) (e := .f32) (off := ![0, 0]) (by decide) _ (k0_pay1 (F := Ideal) (kernelRun0_A.sl.r_28 (F := Ideal) c arg1 harg1 arg2 harg2 arg6 arg7 x u) _)) j).trans ?_
  unfold kernelRun0_A.sl.r_28
  rw [loaded_sums]
  refine (congrFun (congrArg (fun kh => k0_pay1 _ kh) (load_whole arg3 harg3 (by decide) _ kh)) j).trans ?_
  refine row_at _ kh j (place x u (j 0)) ?_
  refine (congrFun (congrArg (fun u => k0_pay268 _ (sums x) k0_pay266 u) (load_whole arg2 harg2 (by decide) _ u)) _).trans ?_
  exact index_at _ x u (totals c arg1 harg1 arg6 x) _

end Point
end Cert.KernelIdeal.Gen
-- ==== Proof.RefRun.lean ====
/-
  The reference's run: a straight line of host operations, and what they leave in every array.
-/
module

public import proofs.«01_k».proof.Defs
public import proofs.«01_k».proof.Proof.Gen.ReferenceIdeal
public import Idealize.ShloMosaic.Lib.Claim

@[expose] public section
set_option maxRecDepth 65536
noncomputable section
namespace Cert.ReferenceIdeal
open Idealize.ShloMosaic

set_option maxHeartbeats 0 in
/-- The reference is a straight line of host operations: the list of them, read off the program. -/
def line : { ops : List (HloOp τ sig (Elt Ideal)) // ∀ d : Dev nD, StableHlo.IsSeq (nD := nD) (main (F := Ideal) d) ops } :=
  by
    apply Subtype.mk
    hlo_seq

/-- The reference's operations, in order. -/
abbrev refOps : List (HloOp τ sig (Elt Ideal)) := line.1

set_option maxHeartbeats 0 in
/-- The reference runs to what its operations leave in every array, and every semaphore ends at zero. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ (d : Dev nD) (b : Ref sig .tc),
      r.2.mem ((d.tc : Thread nD τ).loc b) = StableHlo.after refOps (StableHlo.launchContents m d) (Proc.devRef .tc b)) :=
  StableHlo.run_hlo _ _ line.2 (by decide) (by decide) (by simp [refOps, line])
    (by unfold line; intro _ h; (repeat (cases h with | head => rfl | tail _ h => ?_)); exact nomatch h) _ _
end Cert.ReferenceIdeal
-- ==== Proof.RefDraw.lean ====
/-
  The reference's operations in three stretches: the cumulative sum and the uniform draw; the index; the two gathers. What the
  first stretch leaves.
-/
module

public import proofs.«01_k».proof.Proof.RefRun
public import Idealize.ShloMosaic.Lib.StableHlo.RunRead

@[expose] public section
set_option maxRecDepth 65536
noncomputable section
namespace Cert.ReferenceIdeal
open Idealize.ShloMosaic

/-- The first stretch: the cumulative sum, its last column, and the uniform draw. -/
def headLine : { ops : List (HloOp τ sig (Elt Ideal)) // refOps.take 278 = ops } := by
  apply Subtype.mk
  unfold refOps line
  simp only [List.take]
  rfl

/-- The second stretch: the index of each row. -/
def midLine : { ops : List (HloOp τ sig (Elt Ideal)) // (refOps.drop 278).take 15 = ops } := by
  apply Subtype.mk
  unfold refOps line
  simp only [List.take, List.drop]
  rfl

/-- The third stretch: the gather of the weights, and the gather of the rows of `tanh`. -/
def endLine : { ops : List (HloOp τ sig (Elt Ideal)) // (refOps.drop 278).drop 15 = ops } := by
  apply Subtype.mk
  unfold refOps line
  simp only [List.drop]
  rfl

theorem after_two (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

/-- The reference's run, stretch by stretch. -/
theorem after_refOps (V : Valuation τ sig (Elt Ideal)) :
    StableHlo.after refOps V = StableHlo.after endLine.1 (StableHlo.after midLine.1 (StableHlo.after headLine.1 V)) := by
  rw [← headLine.2, ← midLine.2, ← endLine.2, ← after_two, ← after_two, List.take_append_drop, List.take_append_drop]

set_option maxHeartbeats 0 in
/-- The uniform draw, one number for each row: the term that the program's operations compose. -/
def drawTerm : { x : Vec Ideal S4096x1 .f32 // ∀ V : Valuation τ sig (Elt Ideal), StableHlo.after headLine.1 V (Proc.devRef .tc main_v9) = x } := by
  apply Subtype.mk
  intro V
  unfold headLine
  after_reads_simp [↓StableHlo.readPieces, StableHlo.unaryIndexed_result', StableHlo.binaryIndexed_result']
  simp -implicitDefEqProofs only [StableHlo.TRef.toBuf, StableHlo.TRef.ofBuf, cast_cast, cast_eq]
  exact rfl

/-- The uniform draw. -/
def draw : Vec Ideal S4096x1 .f32 := drawTerm.1

/-- The first stretch leaves the draw. -/
theorem head_draw (V : Valuation τ sig (Elt Ideal)) : StableHlo.after headLine.1 V (Proc.devRef .tc main_v9) = draw := drawTerm.2 V

set_option maxHeartbeats 0 in
/-- The first stretch leaves the arguments as they were. -/
theorem head_args (V : Valuation τ sig (Elt Ideal)) :
    StableHlo.after headLine.1 V (Proc.devRef .tc main_arg0) = V (Proc.devRef .tc main_arg0)
    ∧ StableHlo.after headLine.1 V (Proc.devRef .tc main_arg1) = V (Proc.devRef .tc main_arg1) := by
  unfold headLine
  constructor <;> after_reads_simp

end Cert.ReferenceIdeal
-- ==== Proof.Draw.lean ====
/-
  The uniform draws: the kernel's program makes them before its launch with the operations that the reference uses.
-/
module

public import proofs.«01_k».proof.Proof.RefDraw
public import proofs.«01_k».proof.Proof.Gen.KernelIdeal.Launch

@[expose] public section
set_option maxRecDepth 65536
noncomputable section
namespace Cert.KernelIdeal.Gen
open Idealize.ShloMosaic

set_option maxHeartbeats 0 in
/-- The kernel's program draws the same numbers as the reference. -/
theorem draw_eq (V : Valuation τ sig (Elt Ideal)) :
    StableHlo.after (List.flatten [hostOps0, hostOps0_1, hostOps0_2]) V (Proc.devRef .tc main_v7) = Cert.ReferenceIdeal.draw := by
  after_reads_simp [↓StableHlo.readPieces, StableHlo.unaryIndexed_result', StableHlo.binaryIndexed_result']
  simp -implicitDefEqProofs only [StableHlo.TRef.toBuf, StableHlo.TRef.ofBuf, cast_cast, cast_eq]
  unfold Cert.ReferenceIdeal.draw
  exact rfl
end Cert.KernelIdeal.Gen
-- ==== Proof.Host.lean ====
/-
  The host's lines around the launch that only change an array's shape: before it the draws become a row, after it
  the row of weights becomes a column.
-/
module

public import proofs.«01_k».proof.Proof.Draw
public import Idealize.ShloMosaic.Lib.StableHlo.ReadAt
public import Idealize.ShloMosaic.Lib.Pointwise

@[expose] public section
set_option maxRecDepth 65536
noncomputable section
namespace Cert.KernelIdeal.Gen
open Idealize.ShloMosaic

/-- Two lists of lines, one after the other. -/
theorem after_last (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

/-- The last line before the launch reads the column of draws as a row, -/
theorem row_of_draws (W : Valuation τ sig (Elt Ideal)) (b : Fin 4096) :
    StableHlo.after hostOps0_2 W (Proc.devRef .tc main_v8) (ix2 (0 : Fin 1) b) = W (Proc.devRef .tc main_v7) (ix2 b (0 : Fin 1)) := by
  after_reads_at

/-- and keeps the column. -/
theorem row_kept (W : Valuation τ sig (Elt Ideal)) :
    StableHlo.after hostOps0_2 W (Proc.devRef .tc main_v7) = W (Proc.devRef .tc main_v7) := by
  after_reads_simp

/-- The launch finds the reference's draws, as a row. -/
theorem draws_row (W : Valuation τ sig (Elt Ideal)) (b : Fin 4096) :
    StableHlo.after (List.flatten [hostOps0, hostOps0_1, hostOps0_2]) W (Proc.devRef .tc main_v8) (ix2 (0 : Fin 1) b)
      = Cert.ReferenceIdeal.draw (ix2 b (0 : Fin 1)) := by
  have e : List.flatten [hostOps0 (F := Ideal), hostOps0_1, hostOps0_2] = (hostOps0 ++ hostOps0_1) ++ hostOps0_2 := by
    rw [List.flatten_cons, List.flatten_cons, List.flatten_cons, List.flatten_nil, List.append_nil, List.append_assoc]
  rw [← draw_eq W, e, after_last, row_kept]
  exact row_of_draws _ b

/-- The line after the launch reads the row of weights as a column. -/
theorem column_of_row (W : Valuation τ sig (Elt Ideal)) (b : Fin 4096) :
    StableHlo.after (List.flatten [hostOps1]) W (Proc.devRef .tc main_v10) (ix2 b (0 : Fin 1))
      = W (Proc.devRef .tc main_v9_1) (ix2 (0 : Fin 1) b) := by
  after_reads_at

end Cert.KernelIdeal.Gen
-- ==== Proof.Gathers.lean ====
/-
  The reference's two gathers, read at an index: the entry of a row at that row's own position, and a row of a table.
-/
module

public import proofs.«01_k».proof.ReferenceIdeal
public import Idealize.ShloMosaic.Lib.Pointwise

@[expose] public section
noncomputable section
namespace Cert.ReferenceIdeal
open Idealize.ShloMosaic

variable [Facts₀] {α : Type}

/-- The gather along the rows: element `b` is the entry of row `b` at the position that its word names. -/
theorem pick_entry (x : S4096x1000.Idx → α) (idx : IVec S4096x1x1 32) (b : Fin 4096) (p : Fin 1000)
    (h : (idx (ix3 b (0 : Fin 1) (0 : Fin 1))).toInt.toNat = p.val) :
    Host.gather gather_S4096x1000_S4096x1x1_S4096x1_n_1_0_0_1_2_11 x idx (ix2 b (0 : Fin 1)) = x (ix2 b p) := by
  unfold Host.gather
  congr 1
  funext a
  refine Fin.ext ?_
  show gather_S4096x1000_S4096x1x1_S4096x1_n_1_0_0_1_2_11.start _ idx a
    + gather_S4096x1000_S4096x1x1_S4096x1_n_1_0_0_1_2_11.batchCoord _ a
    + gather_S4096x1000_S4096x1x1_S4096x1_n_1_0_0_1_2_11.offCoord _ a = _
  have off : gather_S4096x1000_S4096x1x1_S4096x1_n_1_0_0_1_2_11.offCoord (ix2 b (0 : Fin 1)) a = 0 :=
    GatherDims.offCoord_eq_zero _ _ _ fun h => by
      have := (GatherDims.mem_sKept _ _).mp h
      match a with
      | ⟨0, _⟩ => exact this.2 (List.mem_singleton.mpr rfl)
      | ⟨1, _⟩ => exact this.1 (List.mem_singleton.mpr rfl)
  rw [off, Nat.add_zero]
  match a with
  | ⟨0, _⟩ =>
    rw [GatherDims.start_batching _ _ _ _ (List.mem_singleton.mpr rfl), Nat.zero_add]
    unfold GatherDims.batchCoord
    refine (dif_pos (List.mem_singleton.mpr rfl)).trans ?_
    rfl
  | ⟨1, _⟩ =>
    rw [GatherDims.batchCoord_eq_zero _ _ _ (fun h => absurd (congrArg Fin.val (List.mem_singleton.mp h)) (by simp)), Nat.add_zero]
    unfold GatherDims.start
    refine (dif_pos (List.mem_singleton.mpr rfl)).trans ?_
    have hsi : gather_S4096x1000_S4096x1x1_S4096x1_n_1_0_0_1_2_11.siIdx (ix2 b (0 : Fin 1))
        ⟨List.idxOf (1 : Fin 2) [1], List.idxOf_lt_length_iff.2 (List.mem_singleton.mpr rfl)⟩ = ix3 b (0 : Fin 1) (0 : Fin 1) := by
      funext b; refine Fin.ext ?_
      match b with
      | ⟨0, _⟩ => rfl
      | ⟨1, _⟩ => rfl
      | ⟨2, _⟩ => rfl
    have p1 := p.isLt
    refine (congrArg (fun i => min (idx i).toInt.toNat (1000 - 1)) hsi).trans ?_
    show min (idx (ix3 b (0 : Fin 1) (0 : Fin 1))).toInt.toNat (1000 - 1) = p.val
    rw [h]
    omega

/-- The gather of rows: element `(b, d)` is column `d` of the row that word `b` names. -/
theorem pick_row (x : S1000x128.Idx → α) (idx : IVec S4096x1 32) (b : Fin 4096) (d : Fin 128) (p : Fin 1000)
    (h : (idx (ix2 b (0 : Fin 1))).toInt.toNat = p.val) :
    Host.gather gather_S1000x128_S4096x1_S4096x128_1_0_n_n_0_1_1128 x idx (ix2 b d) = x (ix2 p d) := by
  unfold Host.gather
  congr 1
  funext a
  refine Fin.ext ?_
  show gather_S1000x128_S4096x1_S4096x128_1_0_n_n_0_1_1128.start _ idx a
    + gather_S1000x128_S4096x1_S4096x128_1_0_n_n_0_1_1128.batchCoord _ a
    + gather_S1000x128_S4096x1_S4096x128_1_0_n_n_0_1_1128.offCoord _ a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    refine (dif_pos (List.mem_singleton.mpr rfl)).trans ?_
    have hsi : gather_S1000x128_S4096x1_S4096x128_1_0_n_n_0_1_1128.siIdx (ix2 b d)
        ⟨List.idxOf (0 : Fin 2) [0], List.idxOf_lt_length_iff.2 (List.mem_singleton.mpr rfl)⟩ = ix2 b (0 : Fin 1) := by
      funext b; refine Fin.ext ?_
      match b with
      | ⟨0, _⟩ => rfl
      | ⟨1, _⟩ => rfl
    have p1 := p.isLt
    refine (congrArg (fun i => min (idx i).toInt.toNat (1000 - 1)) hsi).trans ?_
    show min (idx (ix2 b (0 : Fin 1))).toInt.toNat (1000 - 1) = p.val
    rw [h]
    omega
  | ⟨1, _⟩ =>
    have st : gather_S1000x128_S4096x1_S4096x128_1_0_n_n_0_1_1128.start (ix2 b d) idx (1 : Fin 2) = 0 := by
      unfold GatherDims.start
      exact dif_neg fun h => absurd (congrArg Fin.val (List.mem_singleton.mp h)) (by simp)
    refine (congrArg (· + _) st).trans ?_
    rw [Nat.zero_add]
    unfold GatherDims.offCoord
    refine (dif_pos ((GatherDims.mem_sKept _ _).mpr ⟨fun h => absurd (congrArg Fin.val (List.mem_singleton.mp h)) (by simp), List.not_mem_nil⟩)).trans ?_
    rfl

end Cert.ReferenceIdeal
-- ==== Proof.RefValue.lean ====
/-
  What the reference computes, at an index: the cumulative sums, the position that each row picks, the weight at that position,
  and the row of `tanh` there.
-/
module

public import proofs.«01_k».proof.Proof.RefDraw
public import proofs.«01_k».proof.Proof.CumSum
public import proofs.«01_k».proof.Proof.Words
public import proofs.«01_k».proof.Proof.Gathers
public import Idealize.ShloMosaic.Lib.StableHlo.ReadAt
public import Idealize.ShloMosaic.Lib.Pointwise

@[expose] public section
set_option maxRecDepth 65536
noncomputable section
namespace Cert.ReferenceIdeal
open Idealize.ShloMosaic

/-- The cumulative sums. -/
theorem head_sums (V : Valuation τ sig (Elt Ideal)) (b : Fin 4096) (q : Fin 1000) :
    StableHlo.after headLine.1 V (Proc.devRef .tc main_v0) (ix2 b q) = Sampling.cdf (Sampling.row (V (Proc.devRef .tc main_arg0)) b) q.val := by
  unfold headLine
  after_reads_at
  exact Sampling.cumsum_apply (V (Proc.devRef .tc main_arg0)) (by decide) _ (Ideal.ofBits_zero .f32) b q

/-- The last of a row's cumulative sums. -/
theorem head_total (V : Valuation τ sig (Elt Ideal)) (b : Fin 4096) :
    StableHlo.after headLine.1 V (Proc.devRef .tc main_v1) (ix2 b (0 : Fin 1)) = Sampling.cdf (Sampling.row (V (Proc.devRef .tc main_arg0)) b) 999 := by
  rw [← head_sums V b ⟨999, by omega⟩]
  unfold headLine
  after_reads_at

/-- The position that a row picks, as a word. -/
theorem mid_index (W : Valuation τ sig (Elt Ideal)) (b : Fin 4096) (w : ℕ → EReal) (t : EReal)
    (hw : ∀ q : Fin 1000, W (Proc.devRef .tc main_v0) (ix2 b q) = Sampling.cdf w q.val)
    (u v : EReal) (hu : W (Proc.devRef .tc main_v9) (ix2 b (0 : Fin 1)) = u) (hv : W (Proc.devRef .tc main_v1) (ix2 b (0 : Fin 1)) = v) (ht : u * v = t) :
    StableHlo.after midLine.1 W (Proc.devRef .tc main_v16) (ix2 b (0 : Fin 1)) = BitVec.ofNat 32 (Sampling.pick w t) := by
  unfold midLine
  after_reads_at
  refine Eq.trans ?_ (Sampling.clip_word (Sampling.tally_le w t))
  refine congrArg (fun z => IntOp.minsi 999#32 (IntOp.maxsi 0#32 z)) ?_
  refine Sampling.count_word Finset.univ (fun x : Fin 1000 => x.val) (fun x _ y _ h => Fin.ext h) _ w t (fun x _ => ?_) (fun g hg => ⟨⟨g, hg⟩, Finset.mem_univ _, rfl⟩)
  refine (Sampling.bit_iff _).trans ((Iff.of_eq ?_).trans (and_iff_right x.isLt).symm)
  exact congrArg₂ (fun a c : EReal => a < c) (hw x) ((congrArg₂ (fun a c : EReal => a * c) hu hv).trans ht)

/-- The second stretch leaves the arguments as they were. -/
theorem mid_args (W : Valuation τ sig (Elt Ideal)) :
    StableHlo.after midLine.1 W (Proc.devRef .tc main_arg0) = W (Proc.devRef .tc main_arg0)
    ∧ StableHlo.after midLine.1 W (Proc.devRef .tc main_arg1) = W (Proc.devRef .tc main_arg1) := by
  unfold midLine
  constructor <;> after_reads_simp

/-- The third stretch leaves the arguments as they were. -/
theorem end_args (W : Valuation τ sig (Elt Ideal)) :
    StableHlo.after endLine.1 W (Proc.devRef .tc main_arg0) = W (Proc.devRef .tc main_arg0)
    ∧ StableHlo.after endLine.1 W (Proc.devRef .tc main_arg1) = W (Proc.devRef .tc main_arg1) := by
  unfold endLine
  constructor <;> after_reads_simp

/-- The weight at the picked position. -/
theorem end_weight (W : Valuation τ sig (Elt Ideal)) (b : Fin 4096) (p : Fin 1000)
    (hp : W (Proc.devRef .tc main_v16) (ix2 b (0 : Fin 1)) = BitVec.ofNat 32 p.val) :
    StableHlo.after endLine.1 W (Proc.devRef .tc main_v17) (ix2 b (0 : Fin 1)) = W (Proc.devRef .tc main_arg0) (ix2 b p) := by
  unfold endLine
  after_reads_at
  refine (Sampling.masked _ _ hp p.isLt _ _).trans ?_
  exact pick_entry _ _ b p (Sampling.wrap_read _ hp p.isLt)

/-- The row of `tanh` at the picked position. -/
theorem end_row (W : Valuation τ sig (Elt Ideal)) (b : Fin 4096) (d : Fin 128) (p : Fin 1000)
    (hp : W (Proc.devRef .tc main_v16) (ix2 b (0 : Fin 1)) = BitVec.ofNat 32 p.val) :
    StableHlo.after endLine.1 W (Proc.devRef .tc main_v20) (ix2 b d) = Ideal.tanh (W (Proc.devRef .tc main_arg1) (ix2 p d)) := by
  unfold endLine
  after_reads_at
  refine (Sampling.masked _ _ hp p.isLt _ _).trans ?_
  exact pick_row _ _ b d p (Sampling.wrap_read _ hp p.isLt)

/-- The position that row `b` of the weights `x` picks. -/
def chosen (x : S4096x1000.Idx → EReal) (b : Fin 4096) : Fin 1000 :=
  ⟨Sampling.pick (Sampling.row x b) (draw (ix2 b (0 : Fin 1)) * Sampling.cdf (Sampling.row x b) 999), Sampling.pick_lt _ _⟩

/-- The reference's index of row `b`, as a word. -/
theorem index_word (V : Valuation τ sig (Elt Ideal)) (b : Fin 4096) :
    StableHlo.after midLine.1 (StableHlo.after headLine.1 V) (Proc.devRef .tc main_v16) (ix2 b (0 : Fin 1))
      = BitVec.ofNat 32 (chosen (V (Proc.devRef .tc main_arg0)) b).val :=
  mid_index _ b _ _ (head_sums V b) _ _ (congrFun (head_draw V) _) (head_total V b) rfl

/-- The reference's second result: each row's weight at the position that it picks. -/
theorem weight (V : Valuation τ sig (Elt Ideal)) (b : Fin 4096) :
    StableHlo.after refOps V (Proc.devRef .tc main_v17) (ix2 b (0 : Fin 1))
      = V (Proc.devRef .tc main_arg0) (ix2 b (chosen (V (Proc.devRef .tc main_arg0)) b)) := by
  rw [after_refOps]
  refine (end_weight _ b _ (index_word V b)).trans ?_
  rw [(mid_args _).1, (head_args V).1]

/-- The reference's first result: each row's row of `tanh` at the position that it picks. -/
theorem action (V : Valuation τ sig (Elt Ideal)) (b : Fin 4096) (d : Fin 128) :
    StableHlo.after refOps V (Proc.devRef .tc main_v20) (ix2 b d)
      = Ideal.tanh (V (Proc.devRef .tc main_arg1) (ix2 (chosen (V (Proc.devRef .tc main_arg0)) b) d)) := by
  rw [after_refOps]
  refine (end_row _ b d _ (index_word V b)).trans ?_
  rw [(mid_args _).2, (head_args V).2]

/-- The reference leaves its arguments as they were. -/
theorem args (V : Valuation τ sig (Elt Ideal)) :
    StableHlo.after refOps V (Proc.devRef .tc main_arg0) = V (Proc.devRef .tc main_arg0)
    ∧ StableHlo.after refOps V (Proc.devRef .tc main_arg1) = V (Proc.devRef .tc main_arg1) := by
  rw [after_refOps]
  exact ⟨(end_args _).1.trans ((mid_args _).1.trans (head_args V).1), (end_args _).2.trans ((mid_args _).2.trans (head_args V).2)⟩

end Cert.ReferenceIdeal
-- ==== Proof.Blocks.lean ====
/-
  The blocks that a point of the grid reads and writes, as parts of the whole arrays.
-/
module

public import proofs.«01_k».proof.Proof.Block
public import proofs.«01_k».proof.Proof.RefValue
public import Idealize.ShloMosaic.Lib.Pipeline.Value

@[expose] public section
set_option maxRecDepth 65536
noncomputable section
namespace Cert.KernelIdeal.Gen
open Idealize.ShloMosaic Idealize.ShloMosaic.TcCoe

/-- Row `b` of the block at point `t`, among all rows. -/
def rowAt (t : Fin cfg0.N) (b : Fin 1024) : Fin 4096 :=
  ⟨t.val * 1024 + b.val, by have := t.isLt; have h : cfg0.N = 4 := N_0; have := b.isLt; omega⟩

/-- The first result: each row's `tanh` of the action that it picks. -/
def actionOut (p : Vec Ideal S4096x1000 .f32) (q : Vec Ideal S1000x128 .f32) : Vec Ideal S4096x128 .f32 := fun i =>
  Ideal.tanh (q (ix2 (Cert.ReferenceIdeal.chosen p (i 0)) (i 1)))

/-- The second result as the launch leaves it, a row: each weight at the position that is picked. -/
def weightRow (p : Vec Ideal S4096x1000 .f32) : Vec Ideal S1x4096 .f32 := fun i =>
  p (ix2 (i 1) (Cert.ReferenceIdeal.chosen p (i 1)))

/-! Which block each window takes at a point. -/

theorem index_0 : ∀ t : Fin cfg0.N, win0_0.index t 0 = t.val ∧ win0_0.index t 1 = 0 := by decide +kernel
theorem index_1 : ∀ t : Fin cfg0.N, win0_1.index t 0 = 0 ∧ win0_1.index t 1 = t.val := by decide +kernel
theorem index_2 : ∀ t : Fin cfg0.N, win0_2.index t 0 = 0 ∧ win0_2.index t 1 = 0 := by decide +kernel
theorem index_3 : ∀ t : Fin cfg0.N, win0_3.index t 0 = t.val ∧ win0_3.index t 1 = 0 := by decide +kernel
theorem index_4 : ∀ t : Fin cfg0.N, win0_4.index t 0 = 0 ∧ win0_4.index t 1 = t.val := by decide +kernel

/-- Window 0's block at a point: the rows from `1024 t`. -/
theorem read_0 (t : Fin cfg0.N) (X : Vec Ideal S4096x1000 .f32) (b : Fin 1024) (g : Fin 1000) :
    (((cfg0.win 0).blk t).view.read (Elt Ideal) X : Vec Ideal S1024x1000 .f32) (ix2 b g) = X (ix2 (rowAt t b) g) := by
  rw [View.read_apply]
  refine congrArg X ?_
  funext a
  apply Fin.ext
  match a with
  | ⟨0, _⟩ => show win0_0.index t 0 * 1024 + 1 * b.val = t.val * 1024 + b.val; rw [(index_0 t).1]; omega
  | ⟨1, _⟩ => show win0_0.index t 1 * 1000 + 1 * g.val = g.val; rw [(index_0 t).2]; omega

/-- Window 1's block at a point: the entries from `1024 t`. -/
theorem read_1 (t : Fin cfg0.N) (X : Vec Ideal S1x4096 .f32) (b : Fin 1024) :
    (((cfg0.win 1).blk t).view.read (Elt Ideal) X : Vec Ideal S1x1024 .f32) (ix2 (0 : Fin 1) b) = X (ix2 (0 : Fin 1) (rowAt t b)) := by
  rw [View.read_apply]
  refine congrArg X ?_
  funext a
  apply Fin.ext
  match a with
  | ⟨0, _⟩ => show win0_1.index t 0 * 1 + 1 * 0 = 0; rw [(index_1 t).1]
  | ⟨1, _⟩ => show win0_1.index t 1 * 1024 + 1 * b.val = t.val * 1024 + b.val; rw [(index_1 t).2]; omega

/-- Window 2's block at a point: the whole array. -/
theorem read_2 (t : Fin cfg0.N) (X : Vec Ideal S1000x128 .f32) (k : Fin 1000) (d : Fin 128) :
    (((cfg0.win 2).blk t).view.read (Elt Ideal) X : Vec Ideal S1000x128 .f32) (ix2 k d) = X (ix2 k d) := by
  rw [View.read_apply]
  refine congrArg X ?_
  funext a
  apply Fin.ext
  match a with
  | ⟨0, _⟩ => show win0_2.index t 0 * 1000 + 1 * k.val = k.val; rw [(index_2 t).1]; omega
  | ⟨1, _⟩ => show win0_2.index t 1 * 128 + 1 * d.val = d.val; rw [(index_2 t).2]; omega

section Block
variable (p : Vec Ideal S4096x1000 .f32) (q : Vec Ideal S1000x128 .f32) (t : Fin cfg0.N)
  (x : Vec Ideal S1024x1000 .f32) (u : Vec Ideal S1x1024 .f32) (kh : Vec Ideal S1000x128 .f32)
  (hx : ∀ b g, x (ix2 b g) = p (ix2 (rowAt t b) g))
  (hu : ∀ b, u (ix2 (0 : Fin 1) b) = Cert.ReferenceIdeal.draw (ix2 (rowAt t b) (0 : Fin 1)))
  (hk : ∀ k d, kh (ix2 k d) = q (ix2 k d))
include hx hu

/-- A row of the block picks what the same row of the whole array picks. -/
theorem place_block (b : Fin 1024) : place x u b = Cert.ReferenceIdeal.chosen p (rowAt t b) := by
  have hrow : Sampling.row x b = Sampling.row p (rowAt t b) := by
    funext g
    by_cases h : g < 1000
    · rw [Sampling.row_of_lt _ _ h, Sampling.row_of_lt _ _ h]
      exact hx b ⟨g, h⟩
    · rw [Sampling.row_of_ge _ _ (by omega), Sampling.row_of_ge _ _ (by omega)]
  apply Fin.ext
  show Sampling.pick (Sampling.row x b) (u (ix2 (0 : Fin 1) b) * Sampling.cdf (Sampling.row x b) 999)
    = Sampling.pick (Sampling.row p (rowAt t b)) (Cert.ReferenceIdeal.draw (ix2 (rowAt t b) (0 : Fin 1)) * Sampling.cdf (Sampling.row p (rowAt t b)) 999)
  rw [hrow, hu b]

/-- A point's second output block, as the block of the second result. -/
theorem weight_block (j : S1x1024.Idx) :
    x (ix2 (j 1) (place x u (j 1))) = ((cfg0.win 4).blk t).view.read (Elt Ideal) (weightRow p) j := by
  rw [View.read_apply]
  have e1 : rowAt t (j 1) = (((cfg0.win 4).blk t).view.emb j) 1 := by
    apply Fin.ext
    show t.val * 1024 + (j 1).val = win0_4.index t 1 * 1024 + 1 * (j 1).val
    rw [(index_4 t).2]; omega
  refine (hx _ _).trans ?_
  refine (congrArg (fun k => p (ix2 (rowAt t (j 1)) k)) (place_block p t x u hx hu (j 1))).trans ?_
  exact congrArg (fun b => p (ix2 b (Cert.ReferenceIdeal.chosen p b))) e1

include hk

/-- A point's first output block, as the block of the first result. -/
theorem action_block (j : S1024x128.Idx) :
    Ideal.tanh (kh (ix2 (place x u (j 0)) (j 1))) = ((cfg0.win 3).blk t).view.read (Elt Ideal) (actionOut p q) j := by
  rw [View.read_apply]
  have e0 : rowAt t (j 0) = (((cfg0.win 3).blk t).view.emb j) 0 := by
    apply Fin.ext
    show t.val * 1024 + (j 0).val = win0_3.index t 0 * 1024 + 1 * (j 0).val
    rw [(index_3 t).1]; omega
  have e1 : (j 1 : Fin 128) = (((cfg0.win 3).blk t).view.emb j) 1 := by
    apply Fin.ext
    show (j 1).val = win0_3.index t 1 * 128 + 1 * (j 1).val
    rw [(index_3 t).2]; omega
  refine congrArg Ideal.tanh ((hk _ _).trans ?_)
  refine (congrArg (fun k => q (ix2 k (j 1))) (place_block p t x u hx hu (j 0))).trans ?_
  exact congrArg₂ (fun b d => q (ix2 (Cert.ReferenceIdeal.chosen p b) d)) e0 e1

end Block

end Cert.KernelIdeal.Gen
-- ==== Proof.Arrays.lean ====
/-
  The kernel's two output arrays after the launch: the blocks of the four points put together.
-/
module

public import proofs.«01_k».proof.Proof.Outs
public import proofs.«01_k».proof.Proof.Host
public import proofs.«01_k».proof.Proof.Blocks
public import proofs.«01_k».proof.Proof.Gen.KernelIdeal.Frame
public import Idealize.ShloMosaic.Lib.Pipeline.Value

@[expose] public section
set_option maxRecDepth 65536
noncomputable section
namespace Cert.KernelIdeal.Gen
open Idealize.ShloMosaic Idealize.ShloMosaic.TcCoe

variable (m : (ℓ : Loc nD τ sig) → Buf (Elt Ideal) ℓ)

/-- The array of weights, as the launch finds it. -/
def weights (c : Dev nD) : Vec Ideal S4096x1000 .f32 := m ((c : Thread nD τ).loc main_arg0)

/-- The array of actions, as the launch finds it. -/
def actions (c : Dev nD) : Vec Ideal S1000x128 .f32 := m ((c : Thread nD τ).loc main_arg1)

/-- Input block 0 at a point: the rows of weights from `1024 t`. -/
theorem block_weights (c : Dev nD) (t : Fin cfg0.N) (b : Fin 1024) (g : Fin 1000) :
    (iblk m c 0 t : Vec Ideal S1024x1000 .f32) (ix2 b g) = weights m c (ix2 (rowAt t b) g) := by
  unfold iblk
  exact (read_0 t (V m c main_arg0) b g).trans (congrFun (V_main_arg0 m c) _)

/-- Input block 1 at a point: the draws from `1024 t`. -/
theorem block_draws (c : Dev nD) (t : Fin cfg0.N) (b : Fin 1024) :
    (iblk m c 1 t : Vec Ideal S1x1024 .f32) (ix2 (0 : Fin 1) b) = Cert.ReferenceIdeal.draw (ix2 (rowAt t b) (0 : Fin 1)) := by
  unfold iblk
  exact (read_1 t (V m c main_v8) b).trans (draws_row (fun b => m (c, b)) (rowAt t b))

/-- Input block 2 at a point: the actions, all of them. -/
theorem block_actions (c : Dev nD) (t : Fin cfg0.N) (k : Fin 1000) (d : Fin 128) :
    (iblk m c 2 t : Vec Ideal S1000x128 .f32) (ix2 k d) = actions m c (ix2 k d) := by
  unfold iblk
  exact (read_2 t (V m c main_arg1) k d).trans (congrFun (V_main_arg1 m c) _)

/-- What a point leaves in its first output block, -/
theorem point_action (c : Dev nD) (t : Fin cfg0.N) (j : S1024x128.Idx) : (outsAt0 m c t).1 j
    = Ideal.tanh ((iblk m c 2 t : Vec Ideal S1000x128 .f32) (ix2 (place (iblk m c 0 t) (iblk m c 1 t) (j 0)) (j 1))) := by
  unfold outsAt0
  dsimp only
  exact out_action c (grid0.coords t) (ms0_0 t) (hs0_0 t) (ms0_1 t) (hs0_1 t) (ms0_2 t) (hs0_2 t) (ms0_3 t) (hs0_3 t) (ms0_4 t) (hs0_4 t) scM0_0
    (Memref.isWhole_whole _) scM0_1 (Memref.isWhole_whole _) (iblk m c 0 t) (iblk m c 1 t) (iblk m c 2 t) j

/-- and in its second. -/
theorem point_weight (c : Dev nD) (t : Fin cfg0.N) (j : S1x1024.Idx) : (outsAt0 m c t).2 j
    = (iblk m c 0 t : Vec Ideal S1024x1000 .f32) (ix2 (j 1) (place (iblk m c 0 t) (iblk m c 1 t) (j 1))) := by
  unfold outsAt0
  dsimp only
  exact out_weight c (grid0.coords t) (ms0_0 t) (hs0_0 t) (ms0_1 t) (hs0_1 t) (ms0_2 t) (hs0_2 t) (ms0_3 t) (hs0_3 t) (ms0_4 t) (hs0_4 t) scM0_0
    (Memref.isWhole_whole _) scM0_1 (Memref.isWhole_whole _) (iblk m c 0 t) (iblk m c 1 t) (iblk m c 2 t) j

/-- What each point writes back to the first output array. -/
theorem flushed_action (c : Dev nD) (t : Fin cfg0.N) :
    (dats m 0 c).flushed 3 t = ((cfg0.win 3).blk t).view.read (Elt Ideal) (actionOut (weights m c) (actions m c)) := by
  have cut : ∀ o : Vec Ideal S1024x128 .f32, (∀ j, o j = Ideal.tanh ((iblk m c 2 t : Vec Ideal S1000x128 .f32) (ix2 (place (iblk m c 0 t) (iblk m c 1 t) (j 0)) (j 1)))) →
      (cfg0.win 3).cut (grid0.coords t) o = ((cfg0.win 3).blk t).view.read (Elt Ideal) (actionOut (weights m c) (actions m c)) :=
    fun o h => funext fun j => (h j).trans (action_block (weights m c) (actions m c) t (iblk m c 0 t) (iblk m c 1 t) (iblk m c 2 t)
      (block_weights m c t) (block_draws m c t) (block_actions m c t) j)
  show (cfg0.win 3).cut (grid0.coords t) ((dats m 0 c).after 3 t) = _
  rw [after0_3]
  exact cut _ (point_action m c t)

/-- What each point writes back to the second output array. -/
theorem flushed_weight (c : Dev nD) (t : Fin cfg0.N) :
    (dats m 0 c).flushed 4 t = ((cfg0.win 4).blk t).view.read (Elt Ideal) (weightRow (weights m c)) := by
  have cut : ∀ o : Vec Ideal S1x1024 .f32, (∀ j, o j = (iblk m c 0 t : Vec Ideal S1024x1000 .f32) (ix2 (j 1) (place (iblk m c 0 t) (iblk m c 1 t) (j 1)))) →
      (cfg0.win 4).cut (grid0.coords t) o = ((cfg0.win 4).blk t).view.read (Elt Ideal) (weightRow (weights m c)) :=
    fun o h => funext fun j => (h j).trans (weight_block (weights m c) t (iblk m c 0 t) (iblk m c 1 t)
      (block_weights m c t) (block_draws m c t) j)
  show (cfg0.win 4).cut (grid0.coords t) ((dats m 0 c).after 4 t) = _
  rw [after0_4]
  exact cut _ (point_weight m c t)

/-- The point whose block holds row `n`. -/
def pointOf (n : ℕ) (h : n < 4096) : Fin cfg0.N := ⟨n / 1024, by have h : cfg0.N = 4 := N_0; omega⟩

/-- The first output array after the last point. -/
theorem array_action (c : Dev nD) : (dats m 0 c).arrAt 3 cfg0.N = actionOut (weights m c) (actions m c) :=
  (dats m 0 c).arrAt_eq_of_cover 3 (actionOut (weights m c) (actions m c)) (fun t _ => flushed_action m c t) fun i => by
    have h0 : (i 0 : Nat) < 4096 := (i 0).isLt
    have h1 : (i 1 : Nat) < 128 := (i 1).isLt
    refine ⟨pointOf (i 0) h0, flush0_3 _, ?_⟩
    show i ∈ ((View.whole main_v9_0).slice (win0_3.rect (pointOf (i 0) h0))).set
    rw [View.set_slice_whole, Rect.mem_set_unit]
    intro a
    match a with
    | ⟨0, _⟩ =>
      show win0_3.index (pointOf (i 0) h0) 0 * 1024 ≤ (i 0 : Nat) ∧ (i 0 : Nat) < win0_3.index (pointOf (i 0) h0) 0 * 1024 + 1024
      rw [(index_3 _).1]
      show (i 0 : Nat) / 1024 * 1024 ≤ (i 0 : Nat) ∧ (i 0 : Nat) < (i 0 : Nat) / 1024 * 1024 + 1024
      omega
    | ⟨1, _⟩ =>
      show win0_3.index (pointOf (i 0) h0) 1 * 128 ≤ (i 1 : Nat) ∧ (i 1 : Nat) < win0_3.index (pointOf (i 0) h0) 1 * 128 + 128
      rw [(index_3 _).2]; omega

/-- The second output array after the last point. -/
theorem array_weight (c : Dev nD) : (dats m 0 c).arrAt 4 cfg0.N = weightRow (weights m c) :=
  (dats m 0 c).arrAt_eq_of_cover 4 (weightRow (weights m c)) (fun t _ => flushed_weight m c t) fun i => by
    have h0 : (i 0 : Nat) < 1 := (i 0).isLt
    have h1 : (i 1 : Nat) < 4096 := (i 1).isLt
    refine ⟨pointOf (i 1) h1, flush0_4 _, ?_⟩
    show i ∈ ((View.whole main_v9_1).slice (win0_4.rect (pointOf (i 1) h1))).set
    rw [View.set_slice_whole, Rect.mem_set_unit]
    intro a
    match a with
    | ⟨0, _⟩ =>
      show win0_4.index (pointOf (i 1) h1) 0 * 1 ≤ (i 0 : Nat) ∧ (i 0 : Nat) < win0_4.index (pointOf (i 1) h1) 0 * 1 + 1
      rw [(index_4 _).1]; omega
    | ⟨1, _⟩ =>
      show win0_4.index (pointOf (i 1) h1) 1 * 1024 ≤ (i 1 : Nat) ∧ (i 1 : Nat) < win0_4.index (pointOf (i 1) h1) 1 * 1024 + 1024
      rw [(index_4 _).2]
      show (i 1 : Nat) / 1024 * 1024 ≤ (i 1 : Nat) ∧ (i 1 : Nat) < (i 1 : Nat) / 1024 * 1024 + 1024
      omega

/-- No two windows stage one array. -/
theorem arrays_differ : Function.Injective (Pipeline.arrRef spec0) := by decide +kernel

/-- The second result after the lines that follow the launch: the row, read as a column. -/
theorem column_weight (c : Dev nD) (b : Fin 4096) :
    Pipeline.afterTail₀ cfgs (dats m) 0 (V0 m) [hostOps1] c main_v10 (ix2 b (0 : Fin 1))
      = weights m c (ix2 b (Cert.ReferenceIdeal.chosen (weights m c) b)) := by
  unfold Pipeline.afterTail₀
  refine (column_of_row _ b).trans ?_
  refine (congrFun (Pipeline.withArrays_arr spec0 arrays_differ c (V0 m c) (fun w => (dats m 0 c).arrAt w cfg0.N) 4) _).trans ?_
  exact congrFun (array_weight m c) _

variable (ρ : Dev nD → PrngReg)

/-- The kernel's run, read: both results by entry, and the arguments as they were. -/
theorem run_values : θ_run defs (onTc (τ := τ) (main (F := Ideal))) ⟨m, fun _ => 0, ρ⟩ fun r => ∀ c : Dev nD,
    r.2.mem ((c : Thread nD τ).loc main_v9_0) = actionOut (weights m c) (actions m c)
    ∧ r.2.mem ((c : Thread nD τ).loc main_v10) = Pipeline.afterTail₀ cfgs (dats m) 0 (V0 m) [hostOps1] c main_v10
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨((h.1 c).1 3).trans (array_action m c),
    (h.1 c).2 main_v10 (Pipeline.mem_restRefs_of main_v10 (by decide) (by decide)), h.2 c⟩)
    (θ_run_and (run_main m ρ) (unchanged m ρ))

end Cert.KernelIdeal.Gen
-- ==== Proof.Value.lean ====
/-
  The value claim: the kernel's results and the reference's are the same extended reals.
-/
module

public import proofs.«01_k».proof.Proof.Arrays

@[expose] public section
set_option maxRecDepth 65536
noncomputable section

namespace Cert.ReferenceIdeal
open Idealize.ShloMosaic

variable (m' : (ℓ : Loc nD τ sig) → Buf (Elt Ideal) ℓ) (g' : Dev nD → PrngReg)

/-- The reference leaves its arguments as they were, and every semaphore at zero. -/
theorem frame : θ_run (defs (F := Ideal)) (onTc (τ := τ) (main (F := Ideal))) ⟨m', fun _ => 0, g'⟩ (fun r => (∀ c : Dev nD,
      r.2.mem ((c.tc : Thread nD τ).loc main_arg0) = m' ((c.tc : Thread nD τ).loc main_arg0)
      ∧ r.2.mem ((c.tc : Thread nD τ).loc main_arg1) = m' ((c.tc : Thread nD τ).loc main_arg1))
      ∧ r.2.sem = fun _ => 0) :=
  (θ_run defs _ _).mono (fun r h => ⟨fun c => ⟨(h c main_arg0).trans (args _).1, (h c main_arg1).trans (args _).2⟩,
    sem_eq_zero_of_no_sems (by decide) r.2⟩) (run m' g')

end Cert.ReferenceIdeal

namespace Cert.KernelIdeal.Gen
open Idealize.ShloMosaic

variable (m : (ℓ : Loc nD τ sig) → Buf (Elt Ideal) ℓ)
  (V : Valuation Cert.ReferenceIdeal.τ Cert.ReferenceIdeal.sig (Elt Ideal)) (c : Dev nD)
  (h0 : V (Proc.devRef .tc Cert.ReferenceIdeal.main_arg0) = weights m c)
  (h1 : V (Proc.devRef .tc Cert.ReferenceIdeal.main_arg1) = actions m c)
include h0

/-- The second results agree, at every entry, -/
theorem weight_eq : StableHlo.after Cert.ReferenceIdeal.refOps V (Proc.devRef .tc Cert.ReferenceIdeal.main_v17)
    = Pipeline.afterTail₀ cfgs (dats m) 0 (V0 m) [hostOps1] c main_v10 := by
  refine funext fun (i : S4096x1.Idx) => ?_
  have hi : i = ix2 (i 0) (0 : Fin 1) := (eq_ix2 i).trans (congrArg (ix2 (i 0)) (Subsingleton.elim (α := Fin 1) _ _))
  rw [hi]
  refine (Cert.ReferenceIdeal.weight V (i 0)).trans (Eq.trans ?_ (column_weight m c (i 0)).symm)
  rw [h0]

include h1

/-- and so do the first. -/
theorem action_eq : StableHlo.after Cert.ReferenceIdeal.refOps V (Proc.devRef .tc Cert.ReferenceIdeal.main_v20)
    = actionOut (weights m c) (actions m c) := by
  refine funext fun (i : S4096x128.Idx) => ?_
  rw [eq_ix2 i]
  refine (Cert.ReferenceIdeal.action V (i 0) (i 1)).trans ?_
  rw [h0, h1]
  rfl

end Cert.KernelIdeal.Gen

namespace Cert.Proof
open Idealize.ShloMosaic

/-- From memories that agree on the arguments, both programs run to the same results. -/
theorem algebraic : Cert.algebraic_KernelIdeal_ReferenceIdeal (hKernelIdeal := Cert.KernelIdeal.Gen.facts)
    (hReferenceIdeal := Cert.ReferenceIdeal.Gen.facts) := fun m g m' g' _ hm =>
  ⟨fun c => Cert.KernelIdeal.Gen.actionOut (Cert.KernelIdeal.Gen.weights m c) (Cert.KernelIdeal.Gen.actions m c),
    fun c => Pipeline.afterTail₀ Cert.KernelIdeal.cfgs (Cert.KernelIdeal.Gen.dats m) 0 (Cert.KernelIdeal.Gen.V0 m)
      [Cert.KernelIdeal.Gen.hostOps1] c Cert.KernelIdeal.main_v10,
    Cert.KernelIdeal.Gen.run_values m g,
    (θ_run Cert.ReferenceIdeal.defs _ _).mono (fun _ h c =>
      ⟨(h c Cert.ReferenceIdeal.main_v20).trans (Cert.KernelIdeal.Gen.action_eq m _ c (hm c).1 (hm c).2),
        (h c Cert.ReferenceIdeal.main_v17).trans (Cert.KernelIdeal.Gen.weight_eq m _ c (hm c).1),
        (h c Cert.ReferenceIdeal.main_arg0).trans (Cert.ReferenceIdeal.args _).1,
        (h c Cert.ReferenceIdeal.main_arg1).trans (Cert.ReferenceIdeal.args _).2⟩)
      (Cert.ReferenceIdeal.run m' g')⟩

end Cert.Proof
-- ==== Proof.lean ====
/-
  The proof of `Cert.Claim`: the kernel, its idealization and the idealized reference each run, leave their arguments as they
  were and every semaphore at zero; the idealization replaced nothing; and at the extended reals the kernel's two results are
  the reference's. The first two facts are the generated runs; the reference's run and the value claim are in `Proof/Value.lean`.
-/
module

public import proofs.«01_k».proof.Proof.Gen.Kernel.Frame
public import proofs.«01_k».proof.Proof.Value

@[expose] public section

noncomputable section

namespace Cert.Proof

open Idealize.ShloMosaic

theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g,
  fun m g _ => Cert.ReferenceIdeal.frame m g, trivial, algebraic⟩

end Cert.Proof

end
